-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 8192, 2048]⟩ ⟨3, ![4, 8192, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S4x256x2048 : Shape := ⟨3, ![4, 256, 2048]⟩
abbrev S4x2x256x2048 : Shape := ⟨4, ![4, 2, 256, 2048]⟩
abbrev S4x5x256x2048 : Shape := ⟨4, ![4, 5, 256, 2048]⟩
abbrev S4 : Shape := ⟨1, ![4]⟩
abbrev S8 : Shape := ⟨1, ![8]⟩
abbrev S20 : Shape := ⟨1, ![20]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S1x1x256x2048 : Shape := ⟨4, ![1, 1, 256, 2048]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .local _ .vmem, ⟨0, _⟩ => ⟨S2048, .f32⟩
  | .local _ .vmem, ⟨1, _⟩ => ⟨S4x256x2048, .f32⟩
  | .local _ .vmem, ⟨2, _⟩ => ⟨S4x2x256x2048, .bf16⟩
  | .local _ .vmem, ⟨3, _⟩ => ⟨S4x5x256x2048, .bf16⟩
  | .local _ .vmem, ⟨4, _⟩ => ⟨S4x2x256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_35 : BitVec 32) (c0_i32_36 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v54 : BitVec 32 := Scalar.muli v2 c2048_i32
  let v55 : BitVec 32 := Scalar.addi v54 c0_i32_35
  let v56 : BitVec 32 := Scalar.addi v55 c0_i32_36
  let c0_i32_44 : BitVec 32 := 0#32
  ![v56.toNat, 0]
def k0_dev3 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_94 : BitVec 32 := 1#32
  let v107 : BitVec 32 := Scalar.muli v25 c1_i32_94
  let v108 : BitVec 32 := Scalar.addi c0_i32_95 v107
  v108.toNat
def k0_off2 (d0 : Dev nD) (c0_i32_101 : BitVec 32) (c0_i32_110 : BitVec 32) (c0_i32_111 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_100 : BitVec 32 := 4#32
  let v117 : BitVec 32 := Scalar.addi v2 c4_i32_100
  let v118 : BitVec 32 := Scalar.subi v117 c0_i32_101
  let c1_i32_102 : BitVec 32 := 1#32
  let v119 : BitVec 32 := Scalar.subi v118 c1_i32_102
  let c4_i32_103 : BitVec 32 := 4#32
  let c0_i32_104 : BitVec 32 := 0#32
  let v120 : BitVec 1 := Scalar.cmpi .eq c4_i32_103 c0_i32_104
  let c1_i32_105 : BitVec 32 := 1#32
  let v121 : BitVec 32 := Scalar.select v120 c1_i32_105 c4_i32_103
  let v122 : BitVec 32 := Scalar.remsi v119 v121
  let c0_i32_107 : BitVec 32 := 0#32
  let v124 : BitVec 1 := Scalar.cmpi .slt v122 c0_i32_107
  let c0_i32_108 : BitVec 32 := 0#32
  let v125 : BitVec 1 := Scalar.cmpi .slt v121 c0_i32_108
  let v126 : BitVec 1 := Scalar.xori v124 v125
  let c0_i32_106 : BitVec 32 := 0#32
  let v123 : BitVec 1 := Scalar.cmpi .ne v122 c0_i32_106
  let v127 : BitVec 1 := Scalar.andi v126 v123
  let v128 : BitVec 32 := Scalar.addi v122 v121
  let v129 : BitVec 32 := Scalar.select v127 v128 v122
  let c2048_i32_109 : BitVec 32 := 2048#32
  let v130 : BitVec 32 := Scalar.muli v129 c2048_i32_109
  let v131 : BitVec 32 := Scalar.addi v130 c0_i32_110
  let v132 : BitVec 32 := Scalar.addi v131 c0_i32_111
  let c0_i32_119 : BitVec 32 := 0#32
  ![v132.toNat, 0]
def k0_off3 (d0 : Dev nD) (c1_i32_20 : BitVec 32) (c0_i32_121 : BitVec 32) (c0_i32_122 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v31 : BitVec 32 := Scalar.addi v2 c1_i32_20
  let c4_i32_21 : BitVec 32 := 4#32
  let c0_i32_22 : BitVec 32 := 0#32
  let v32 : BitVec 1 := Scalar.cmpi .eq c4_i32_21 c0_i32_22
  let c1_i32_23 : BitVec 32 := 1#32
  let v33 : BitVec 32 := Scalar.select v32 c1_i32_23 c4_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c2048_i32_120 : BitVec 32 := 2048#32
  let v140 : BitVec 32 := Scalar.muli v41 c2048_i32_120
  let v141 : BitVec 32 := Scalar.addi v140 c0_i32_121
  let v142 : BitVec 32 := Scalar.addi v141 c0_i32_122
  let c0_i32_128 : BitVec 32 := 0#32
  ![v142.toNat, 0]
def k0_off3_at (r : Fin 16) : BitVec 32 × BitVec 32 × BitVec 32 :=
  if r.val < 8 then
    if r.val < 4 then
      if r.val < 2 then
        if r.val < 1 then
          (1#32, 0#32, 0#32)
        else
          (1#32, 0#32, 256#32)
      else
        if r.val < 3 then
          (0#32, 0#32, 512#32)
        else
          (0#32, 0#32, 768#32)
    else
      if r.val < 6 then
        if r.val < 5 then
          (1#32, 0#32, 512#32)
        else
          (1#32, 0#32, 768#32)
      else
        if r.val < 7 then
          (2#32, 0#32, 512#32)
        else
          (2#32, 0#32, 768#32)
  else
    if r.val < 12 then
      if r.val < 10 then
        if r.val < 9 then
          (1#32, 1024#32, 0#32)
        else
          (1#32, 1024#32, 256#32)
      else
        if r.val < 11 then
          (0#32, 1024#32, 512#32)
        else
          (0#32, 1024#32, 768#32)
    else
      if r.val < 14 then
        if r.val < 13 then
          (1#32, 1024#32, 512#32)
        else
          (1#32, 1024#32, 768#32)
      else
        if r.val < 15 then
          (2#32, 1024#32, 512#32)
        else
          (2#32, 1024#32, 768#32)
def k0_dev4 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_148 : BitVec 32 := 1#32
  let v161 : BitVec 32 := Scalar.muli v14 c1_i32_148
  let v162 : BitVec 32 := Scalar.addi c0_i32_149 v161
  v162.toNat
def k0_off4 (d0 : Dev nD) (c0_i32_154 : BitVec 32) (c0_i32_163 : BitVec 32) (c512_i32_164 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v171 : BitVec 32 := Scalar.addi v2 c0_i32_154
  let c1_i32_155 : BitVec 32 := 1#32
  let v172 : BitVec 32 := Scalar.addi v171 c1_i32_155
  let c4_i32_156 : BitVec 32 := 4#32
  let c0_i32_157 : BitVec 32 := 0#32
  let v173 : BitVec 1 := Scalar.cmpi .eq c4_i32_156 c0_i32_157
  let c1_i32_158 : BitVec 32 := 1#32
  let v174 : BitVec 32 := Scalar.select v173 c1_i32_158 c4_i32_156
  let v175 : BitVec 32 := Scalar.remsi v172 v174
  let c0_i32_160 : BitVec 32 := 0#32
  let v177 : BitVec 1 := Scalar.cmpi .slt v175 c0_i32_160
  let c0_i32_161 : BitVec 32 := 0#32
  let v178 : BitVec 1 := Scalar.cmpi .slt v174 c0_i32_161
  let v179 : BitVec 1 := Scalar.xori v177 v178
  let c0_i32_159 : BitVec 32 := 0#32
  let v176 : BitVec 1 := Scalar.cmpi .ne v175 c0_i32_159
  let v180 : BitVec 1 := Scalar.andi v179 v176
  let v181 : BitVec 32 := Scalar.addi v175 v174
  let v182 : BitVec 32 := Scalar.select v180 v181 v175
  let c2048_i32_162 : BitVec 32 := 2048#32
  let v183 : BitVec 32 := Scalar.muli v182 c2048_i32_162
  let v184 : BitVec 32 := Scalar.addi v183 c0_i32_163
  let v185 : BitVec 32 := Scalar.addi v184 c512_i32_164
  let c0_i32_172 : BitVec 32 := 0#32
  ![v185.toNat, 0]
def k0_off5 (d0 : Dev nD) (c1_i32_28 : BitVec 32) (c0_i32_174 : BitVec 32) (c512_i32_175 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_27 : BitVec 32 := 4#32
  let v42 : BitVec 32 := Scalar.addi v2 c4_i32_27
  let v43 : BitVec 32 := Scalar.subi v42 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32_173 : BitVec 32 := 2048#32
  let v193 : BitVec 32 := Scalar.muli v53 c2048_i32_173
  let v194 : BitVec 32 := Scalar.addi v193 c0_i32_174
  let v195 : BitVec 32 := Scalar.addi v194 c512_i32_175
  let c0_i32_181 : BitVec 32 := 0#32
  ![v195.toNat, 0]
def k0_off5_at (r : Fin 16) : BitVec 32 × BitVec 32 × BitVec 32 :=
  if r.val < 8 then
    if r.val < 4 then
      if r.val < 2 then
        if r.val < 1 then
          (1#32, 0#32, 512#32)
        else
          (1#32, 0#32, 768#32)
      else
        if r.val < 3 then
          (0#32, 0#32, 0#32)
        else
          (0#32, 0#32, 256#32)
    else
      if r.val < 6 then
        if r.val < 5 then
          (1#32, 0#32, 0#32)
        else
          (1#32, 0#32, 256#32)
      else
        if r.val < 7 then
          (2#32, 0#32, 0#32)
        else
          (2#32, 0#32, 256#32)
  else
    if r.val < 12 then
      if r.val < 10 then
        if r.val < 9 then
          (1#32, 1024#32, 512#32)
        else
          (1#32, 1024#32, 768#32)
      else
        if r.val < 11 then
          (0#32, 1024#32, 0#32)
        else
          (0#32, 1024#32, 256#32)
    else
      if r.val < 14 then
        if r.val < 13 then
          (1#32, 1024#32, 0#32)
        else
          (1#32, 1024#32, 256#32)
      else
        if r.val < 15 then
          (2#32, 1024#32, 0#32)
        else
          (2#32, 1024#32, 256#32)
def k0_dev5 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_201 : BitVec 32 := 1#32
  let v214 : BitVec 32 := Scalar.muli v25 c1_i32_201
  let v215 : BitVec 32 := Scalar.addi c0_i32_202 v214
  v215.toNat
def k0_dev6 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_254 : BitVec 32 := 1#32
  let v268 : BitVec 32 := Scalar.muli v14 c1_i32_254
  let v269 : BitVec 32 := Scalar.addi c0_i32_255 v268
  v269.toNat
def k0_dev7 (d0 : Dev nD) : Nat :=
  let c0_i32_337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_336 : BitVec 32 := 1#32
  let v339 : BitVec 32 := Scalar.muli v25 c1_i32_336
  let v340 : BitVec 32 := Scalar.addi c0_i32_337 v339
  v340.toNat
def k0_dev8 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_410 : BitVec 32 := 1#32
  let v403 : BitVec 32 := Scalar.muli v14 c1_i32_410
  let v404 : BitVec 32 := Scalar.addi c0_i32_411 v403
  v404.toNat
def k0_dev9 (d0 : Dev nD) : Nat :=
  let c0_i32_483 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_482 : BitVec 32 := 1#32
  let v466 : BitVec 32 := Scalar.muli v25 c1_i32_482
  let v467 : BitVec 32 := Scalar.addi c0_i32_483 v466
  v467.toNat
def k0_dev10 (d0 : Dev nD) : Nat :=
  let c0_i32_555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_554 : BitVec 32 := 1#32
  let v530 : BitVec 32 := Scalar.muli v14 c1_i32_554
  let v531 : BitVec 32 := Scalar.addi c0_i32_555 v530
  v531.toNat
def k0_dev11 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_627 : BitVec 32 := 1#32
  let v593 : BitVec 32 := Scalar.muli v25 c1_i32_627
  let v594 : BitVec 32 := Scalar.addi c0_i32_628 v593
  v594.toNat
def k0_dev12 (d0 : Dev nD) : Nat :=
  let c0_i32_702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_701 : BitVec 32 := 1#32
  let v657 : BitVec 32 := Scalar.muli v14 c1_i32_701
  let v658 : BitVec 32 := Scalar.addi c0_i32_702 v657
  v658.toNat
def k0_dev13 (d0 : Dev nD) : Nat :=
  let c0_i32_774 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_773 : BitVec 32 := 1#32
  let v720 : BitVec 32 := Scalar.muli v25 c1_i32_773
  let v721 : BitVec 32 := Scalar.addi c0_i32_774 v720
  v721.toNat
def k0_dev14 (d0 : Dev nD) : Nat :=
  let c0_i32_847 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_846 : BitVec 32 := 1#32
  let v784 : BitVec 32 := Scalar.muli v14 c1_i32_846
  let v785 : BitVec 32 := Scalar.addi c0_i32_847 v784
  v785.toNat
def k0_dev15 (d0 : Dev nD) : Nat :=
  let c0_i32_933 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_932 : BitVec 32 := 1#32
  let v870 : BitVec 32 := Scalar.muli v25 c1_i32_932
  let v871 : BitVec 32 := Scalar.addi c0_i32_933 v870
  v871.toNat
def k0_dev16 (d0 : Dev nD) : Nat :=
  let c0_i32_1023 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1022 : BitVec 32 := 1#32
  let v955 : BitVec 32 := Scalar.muli v14 c1_i32_1022
  let v956 : BitVec 32 := Scalar.addi c0_i32_1023 v955
  v956.toNat
def k0_dev17 (d0 : Dev nD) : Nat :=
  let c0_i32_1114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1113 : BitVec 32 := 1#32
  let v1040 : BitVec 32 := Scalar.muli v25 c1_i32_1113
  let v1041 : BitVec 32 := Scalar.addi c0_i32_1114 v1040
  v1041.toNat
def k0_dev18 (d0 : Dev nD) : Nat :=
  let c0_i32_1205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1204 : BitVec 32 := 1#32
  let v1125 : BitVec 32 := Scalar.muli v14 c1_i32_1204
  let v1126 : BitVec 32 := Scalar.addi c0_i32_1205 v1125
  v1126.toNat
def k0_dev19 (d0 : Dev nD) : Nat :=
  let c0_i32_1264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1263 : BitVec 32 := 1#32
  let v1170 : BitVec 32 := Scalar.muli v25 c1_i32_1263
  let v1171 : BitVec 32 := Scalar.addi c0_i32_1264 v1170
  v1171.toNat
def k0_dev20 (d0 : Dev nD) : Nat :=
  let c0_i32_1323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1322 : BitVec 32 := 1#32
  let v1220 : BitVec 32 := Scalar.muli v14 c1_i32_1322
  let v1221 : BitVec 32 := Scalar.addi c0_i32_1323 v1220
  v1221.toNat
def k0_dev21 (d0 : Dev nD) : Nat :=
  let c0_i32_1381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1380 : BitVec 32 := 1#32
  let v1269 : BitVec 32 := Scalar.muli v25 c1_i32_1380
  let v1270 : BitVec 32 := Scalar.addi c0_i32_1381 v1269
  v1270.toNat
def k0_dev22 (d0 : Dev nD) : Nat :=
  let c0_i32_1440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1439 : BitVec 32 := 1#32
  let v1319 : BitVec 32 := Scalar.muli v14 c1_i32_1439
  let v1320 : BitVec 32 := Scalar.addi c0_i32_1440 v1319
  v1320.toNat
def k0_dev23 (d0 : Dev nD) : Nat :=
  let c0_i32_1499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1498 : BitVec 32 := 1#32
  let v1368 : BitVec 32 := Scalar.muli v25 c1_i32_1498
  let v1369 : BitVec 32 := Scalar.addi c0_i32_1499 v1368
  v1369.toNat
def k0_dev24 (d0 : Dev nD) : Nat :=
  let c0_i32_1526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1525 : BitVec 32 := 1#32
  let v1391 : BitVec 32 := Scalar.muli v25 c1_i32_1525
  let v1392 : BitVec 32 := Scalar.addi c0_i32_1526 v1391
  v1392.toNat
def k0_dev25 (d0 : Dev nD) : Nat :=
  let c0_i32_1611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1610 : BitVec 32 := 1#32
  let v1469 : BitVec 32 := Scalar.muli v14 c1_i32_1610
  let v1470 : BitVec 32 := Scalar.addi c0_i32_1611 v1469
  v1470.toNat
def k0_dev26 (d0 : Dev nD) : Nat :=
  let c0_i32_1638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1637 : BitVec 32 := 1#32
  let v1492 : BitVec 32 := Scalar.muli v14 c1_i32_1637
  let v1493 : BitVec 32 := Scalar.addi c0_i32_1638 v1492
  v1493.toNat
def k0_dev27 (d0 : Dev nD) : Nat :=
  let c0_i32_1722 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1721 : BitVec 32 := 1#32
  let v1568 : BitVec 32 := Scalar.muli v25 c1_i32_1721
  let v1569 : BitVec 32 := Scalar.addi c0_i32_1722 v1568
  v1569.toNat
def k0_dev28 (d0 : Dev nD) : Nat :=
  let c0_i32_1749 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1748 : BitVec 32 := 1#32
  let v1591 : BitVec 32 := Scalar.muli v25 c1_i32_1748
  let v1592 : BitVec 32 := Scalar.addi c0_i32_1749 v1591
  v1592.toNat
def k0_dev29 (d0 : Dev nD) : Nat :=
  let c0_i32_1835 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1834 : BitVec 32 := 1#32
  let v1669 : BitVec 32 := Scalar.muli v14 c1_i32_1834
  let v1670 : BitVec 32 := Scalar.addi c0_i32_1835 v1669
  v1670.toNat
def k0_dev30 (d0 : Dev nD) : Nat :=
  let c0_i32_1862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1861 : BitVec 32 := 1#32
  let v1692 : BitVec 32 := Scalar.muli v14 c1_i32_1861
  let v1693 : BitVec 32 := Scalar.addi c0_i32_1862 v1692
  v1693.toNat
def k0_dev31 (d0 : Dev nD) : Nat :=
  let c0_i32_2239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2238 : BitVec 32 := 1#32
  let v2015 : BitVec 32 := Scalar.muli v25 c1_i32_2238
  let v2016 : BitVec 32 := Scalar.addi c0_i32_2239 v2015
  v2016.toNat
def k0_dev32 (d0 : Dev nD) : Nat :=
  let c0_i32_2313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2312 : BitVec 32 := 1#32
  let v2079 : BitVec 32 := Scalar.muli v14 c1_i32_2312
  let v2080 : BitVec 32 := Scalar.addi c0_i32_2313 v2079
  v2080.toNat
def k0_dev33 (d0 : Dev nD) : Nat :=
  let c0_i32_2386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2385 : BitVec 32 := 1#32
  let v2142 : BitVec 32 := Scalar.muli v25 c1_i32_2385
  let v2143 : BitVec 32 := Scalar.addi c0_i32_2386 v2142
  v2143.toNat
def k0_dev34 (d0 : Dev nD) : Nat :=
  let c0_i32_2460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2459 : BitVec 32 := 1#32
  let v2206 : BitVec 32 := Scalar.muli v14 c1_i32_2459
  let v2207 : BitVec 32 := Scalar.addi c0_i32_2460 v2206
  v2207.toNat
def k0_dev35 (d0 : Dev nD) : Nat :=
  let c0_i32_2533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2532 : BitVec 32 := 1#32
  let v2269 : BitVec 32 := Scalar.muli v25 c1_i32_2532
  let v2270 : BitVec 32 := Scalar.addi c0_i32_2533 v2269
  v2270.toNat
def k0_dev36 (d0 : Dev nD) : Nat :=
  let c0_i32_2607 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2606 : BitVec 32 := 1#32
  let v2333 : BitVec 32 := Scalar.muli v14 c1_i32_2606
  let v2334 : BitVec 32 := Scalar.addi c0_i32_2607 v2333
  v2334.toNat
def k0_dev37 (d0 : Dev nD) : Nat :=
  let c0_i32_2680 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2679 : BitVec 32 := 1#32
  let v2396 : BitVec 32 := Scalar.muli v25 c1_i32_2679
  let v2397 : BitVec 32 := Scalar.addi c0_i32_2680 v2396
  v2397.toNat
def k0_dev38 (d0 : Dev nD) : Nat :=
  let c0_i32_2754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2753 : BitVec 32 := 1#32
  let v2460 : BitVec 32 := Scalar.muli v14 c1_i32_2753
  let v2461 : BitVec 32 := Scalar.addi c0_i32_2754 v2460
  v2461.toNat
def k0_dev39 (d0 : Dev nD) : Nat :=
  let c0_i32_2841 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2840 : BitVec 32 := 1#32
  let v2546 : BitVec 32 := Scalar.muli v25 c1_i32_2840
  let v2547 : BitVec 32 := Scalar.addi c0_i32_2841 v2546
  v2547.toNat
def k0_dev40 (d0 : Dev nD) : Nat :=
  let c0_i32_2928 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2927 : BitVec 32 := 1#32
  let v2626 : BitVec 32 := Scalar.muli v14 c1_i32_2927
  let v2627 : BitVec 32 := Scalar.addi c0_i32_2928 v2626
  v2627.toNat
def k0_dev41 (d0 : Dev nD) : Nat :=
  let c0_i32_3015 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3014 : BitVec 32 := 1#32
  let v2706 : BitVec 32 := Scalar.muli v25 c1_i32_3014
  let v2707 : BitVec 32 := Scalar.addi c0_i32_3015 v2706
  v2707.toNat
def k0_dev42 (d0 : Dev nD) : Nat :=
  let c0_i32_3102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3101 : BitVec 32 := 1#32
  let v2786 : BitVec 32 := Scalar.muli v14 c1_i32_3101
  let v2787 : BitVec 32 := Scalar.addi c0_i32_3102 v2786
  v2787.toNat
def k0_dev43 (d0 : Dev nD) : Nat :=
  let c0_i32_3156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3155 : BitVec 32 := 1#32
  let v2826 : BitVec 32 := Scalar.muli v25 c1_i32_3155
  let v2827 : BitVec 32 := Scalar.addi c0_i32_3156 v2826
  v2827.toNat
def k0_dev44 (d0 : Dev nD) : Nat :=
  let c0_i32_3216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3215 : BitVec 32 := 1#32
  let v2876 : BitVec 32 := Scalar.muli v14 c1_i32_3215
  let v2877 : BitVec 32 := Scalar.addi c0_i32_3216 v2876
  v2877.toNat
def k0_dev45 (d0 : Dev nD) : Nat :=
  let c0_i32_3275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3274 : BitVec 32 := 1#32
  let v2925 : BitVec 32 := Scalar.muli v25 c1_i32_3274
  let v2926 : BitVec 32 := Scalar.addi c0_i32_3275 v2925
  v2926.toNat
def k0_dev46 (d0 : Dev nD) : Nat :=
  let c0_i32_3335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3334 : BitVec 32 := 1#32
  let v2975 : BitVec 32 := Scalar.muli v14 c1_i32_3334
  let v2976 : BitVec 32 := Scalar.addi c0_i32_3335 v2975
  v2976.toNat
def k0_dev47 (d0 : Dev nD) : Nat :=
  let c0_i32_3394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3393 : BitVec 32 := 1#32
  let v3024 : BitVec 32 := Scalar.muli v25 c1_i32_3393
  let v3025 : BitVec 32 := Scalar.addi c0_i32_3394 v3024
  v3025.toNat
def k0_dev48 (d0 : Dev nD) : Nat :=
  let c0_i32_3460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3459 : BitVec 32 := 1#32
  let v3079 : BitVec 32 := Scalar.muli v14 c1_i32_3459
  let v3080 : BitVec 32 := Scalar.addi c0_i32_3460 v3079
  v3080.toNat
def k0_dev49 (d0 : Dev nD) : Nat :=
  let c0_i32_3525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3524 : BitVec 32 := 1#32
  let v3133 : BitVec 32 := Scalar.muli v25 c1_i32_3524
  let v3134 : BitVec 32 := Scalar.addi c0_i32_3525 v3133
  v3134.toNat
def k0_dev50 (d0 : Dev nD) : Nat :=
  let c0_i32_3591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3590 : BitVec 32 := 1#32
  let v3188 : BitVec 32 := Scalar.muli v14 c1_i32_3590
  let v3189 : BitVec 32 := Scalar.addi c0_i32_3591 v3188
  v3189.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x8192x2048 : Shape := ⟨3, ![4, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Prog.lean ====
/-
The kernel's body written as a composition of parametric steps: one program text per kind of step, over the stream `k`
and the hop `t`, in place of the unrolled printed text. `body_eq` (module `ProgEq`) says that the printed body is this
program.
-/
module

public import proofs.«01_k».proof.Proof.Gen.KernelIdeal.Skeleton
public import Idealize.ShloMosaic.Lib.Tactic
public import Idealize.ShloMosaic.Lib.Pipeline.Value

@[expose] public section

noncomputable section

namespace Cert.KernelIdeal.AR

open Cert.KernelIdeal Cert.KernelIdeal.Gen
open Idealize.ShloMosaic Idealize.ShloMosaic.TcCoe Idealize.SL.Sem

variable {F : FTy → Type} [FloatOps F]

/-! ## The buffers -/

abbrev xM : Memref sig .tc .hbm S1x8192x2048 .f32 := Memref.whole main_arg0
abbrev rM : Memref sig .tc .hbm S8192x2048 .f32 := Memref.whole main_arg1
abbrev gM : Memref sig .tc .vmem S2048 .f32 := Memref.whole cc0_stg0_0
abbrev oM : Memref sig .tc .hbm S8192x2048 .f32 := Memref.whole main_v1
abbrev lM : Memref sig .tc .vmem S4x256x2048 .f32 := Memref.whole cc0_scratch0
abbrev sM : Memref sig .tc .vmem S4x2x256x2048 .bf16 := Memref.whole cc0_scratch1
abbrev vM : Memref sig .tc .vmem S4x5x256x2048 .bf16 := Memref.whole cc0_scratch2
abbrev tM : Memref sig .tc .vmem S4x2x256x2048 .f32 := Memref.whole cc0_scratch3

/-! ## The slots -/

theorem inbL (k : Fin 4) : ∀ a, (![k.val, 0, 0] : Fin 3 → Nat) a + S1x256x2048.size a ≤ S4x256x2048.size a := by revert k; decide
theorem inb2 (k : Fin 4) (j : Fin 2) : ∀ a, (![k.val, j.val, 0, 0] : Fin 4 → Nat) a + S1x1x256x2048.size a ≤ S4x2x256x2048.size a := by
  revert k j; decide
theorem inb5 (k : Fin 4) (j : Fin 5) : ∀ a, (![k.val, j.val, 0, 0] : Fin 4 → Nat) a + S1x1x256x2048.size a ≤ S4x5x256x2048.size a := by
  revert k j; decide

/-- Slot `k` of the load buffer, slot `(k, j)` of a two-slot buffer and of the receive buffer, as rectangles. -/
abbrev rL (k : Fin 4) : Rect S4x256x2048 := Rect.unit (s := S4x256x2048) ![k.val, 0, 0] S1x256x2048.size (inbL k)
abbrev r2 (k : Fin 4) (j : Fin 2) : Rect S4x2x256x2048 := Rect.unit (s := S4x2x256x2048) ![k.val, j.val, 0, 0] S1x1x256x2048.size (inb2 k j)
abbrev r5 (k : Fin 4) (j : Fin 5) : Rect S4x5x256x2048 := Rect.unit (s := S4x5x256x2048) ![k.val, j.val, 0, 0] S1x1x256x2048.size (inb5 k j)

abbrev lS (k : Fin 4) : Memref sig .tc .vmem S256x2048 .f32 :=
  (lM.slice (rL k) (fun _ => rfl)).squeeze S256x2048 squeezes_S1x256x2048_S256x2048
abbrev sS (k : Fin 4) (j : Fin 2) : Memref sig .tc .vmem S256x2048 .bf16 :=
  (sM.slice (r2 k j) (fun _ => rfl)).squeeze S256x2048 squeezes_S1x1x256x2048_S256x2048
abbrev vS (k : Fin 4) (j : Fin 5) : Memref sig .tc .vmem S256x2048 .bf16 :=
  (vM.slice (r5 k j) (fun _ => rfl)).squeeze S256x2048 squeezes_S1x1x256x2048_S256x2048
abbrev tS (k : Fin 4) (j : Fin 2) : Memref sig .tc .vmem S256x2048 .f32 :=
  (tM.slice (r2 k j) (fun _ => rfl)).squeeze S256x2048 squeezes_S1x1x256x2048_S256x2048

/-- A transfer to or from a slot of a buffer of half words moves whole words. -/
theorem wxS (k : Fin 4) (j : Fin 2) : (sS k j).view.WordExact :=
  (View.wordExact_slice_whole cc0_scratch1 rfl (r2 k j) (by decide) rfl ⟨0, rfl⟩ ⟨128, rfl⟩).reshape _ _
theorem wxV (k : Fin 4) (j : Fin 5) : (vS k j).view.WordExact :=
  (View.wordExact_slice_whole cc0_scratch2 rfl (r5 k j) (by decide) rfl ⟨0, rfl⟩ ⟨128, rfl⟩).reshape _ _

/-- A tile's offset in an array of 8192 rows, within bounds. -/
structure Off where
  o : Fin 2 → Nat
  inb : ∀ a, o a + S256x2048.size a ≤ S8192x2048.size a

abbrev rT (o : Off) : Rect S8192x2048 := Rect.unit (s := S8192x2048) o.o S256x2048.size o.inb

abbrev xT (o : Off) : Memref sig .tc .hbm S256x2048 .f32 :=
  ((xM.slice (Rect.unit (s := S1x8192x2048) ![0, 0, 0] S1x8192x2048.size inb_S1x8192x2048_S1x8192x2048_0_0_0) (fun _ => rfl)).squeeze
    S8192x2048 squeezes_S1x8192x2048_S8192x2048).slice (rT o) (fun _ => rfl)
abbrev rT' (o : Off) : Memref sig .tc .hbm S256x2048 .f32 := rM.slice (rT o) (fun _ => rfl)
abbrev oT (o : Off) : Memref sig .tc .hbm S256x2048 .f32 := oM.slice (rT o) (fun _ => rfl)

/-! ## The semaphores -/

theorem inbS4 (k : Fin 4) : ∀ a, (![k.val] : Fin 1 → Nat) a + S1.size a ≤ S4.size a := by revert k; decide
theorem inbS8 (k : Fin 4) (j : Fin 2) : ∀ a, (![k.val * 2 + j.val] : Fin 1 → Nat) a + S1.size a ≤ S8.size a := by revert k j; decide
theorem inbS20 (k : Fin 4) (j : Fin 5) : ∀ a, (![k.val * 5 + j.val] : Fin 1 → Nat) a + S1.size a ≤ S20.size a := by revert k j; decide

abbrev at4 (a : DmaSems sig S4) (k : Fin 4) : DmaSem sig :=
  ((a.slice (Rect.unit (s := S4) ![k.val] S1.size (inbS4 k))).squeeze S_ squeezes_S1_S_).sem
abbrev at8 (a : DmaSems sig S8) (k : Fin 4) (j : Fin 2) : DmaSem sig :=
  ((a.slice (Rect.unit (s := S8) ![k.val * 2 + j.val] S1.size (inbS8 k j))).squeeze S_ squeezes_S1_S_).sem
abbrev at20 (a : DmaSems sig S20) (k : Fin 4) (j : Fin 5) : DmaSem sig :=
  ((a.slice (Rect.unit (s := S20) ![k.val * 5 + j.val] S1.size (inbS20 k j))).squeeze S_ squeezes_S1_S_).sem

abbrev ldQ (k : Fin 4) : DmaSem sig := at4 cc0_scratch4 k
abbrev rsQ (k : Fin 4) : DmaSem sig := at4 cc0_scratch5 k
abbrev stQ (k : Fin 4) (j : Fin 2) : DmaSem sig := at8 cc0_scratch6 k j
abbrev sdQ (k : Fin 4) (j : Fin 2) : DmaSem sig := at8 cc0_scratch7 k j
abbrev rvQ (k : Fin 4) (j : Fin 5) : DmaSem sig := at20 cc0_scratch8 k j
abbrev barQ : Sem sig := (SemArray.scalar (sig.barrier 0 rfl) : Sems sig S_).sem

/-! ## Devices and tiles -/

/-- The device a stream's transfers go to: the next one for the even streams, the one before for the odd ones. -/
def dstD (d : Dev nD) (k : Fin 4) : Dev nD := match k with
  | 0 => ⟨k0_dev2 d, k0_dev2_lt d⟩ | 1 => ⟨k0_dev1 d, k0_dev1_lt d⟩
  | 2 => ⟨k0_dev2 d, k0_dev2_lt d⟩ | 3 => ⟨k0_dev1 d, k0_dev1_lt d⟩

theorem off3_inb : ∀ (d : Dev nD) (w : Fin 3) (p : Fin 2) (q : Fin 4), ∀ a,
    k0_off3 d (BitVec.ofNat 32 w.val) (BitVec.ofNat 32 (1024 * p.val)) (BitVec.ofNat 32 (256 * q.val)) a + S256x2048.size a ≤ S8192x2048.size a := by
  decide +kernel
theorem off5_inb : ∀ (d : Dev nD) (w : Fin 3) (p : Fin 2) (q : Fin 4), ∀ a,
    k0_off5 d (BitVec.ofNat 32 w.val) (BitVec.ofNat 32 (1024 * p.val)) (BitVec.ofNat 32 (256 * q.val)) a + S256x2048.size a ≤ S8192x2048.size a := by
  decide +kernel

/-- The quarter of a pass's 1024 rows that stream `k` works on. -/
def quart (k : Fin 4) : Fin 4 := match k with | 0 => 0 | 1 => 2 | 2 => 1 | 3 => 3

/-- The tile of the device's own chunk. -/
def ownO (d : Dev nD) (k : Fin 4) (p : Fin 2) : Off := ⟨_, k0_off1_inb d p (quart k)⟩
/-- The tile received at step `s` of the reduce-scatter. -/
def recvO (d : Dev nD) (k : Fin 4) (s : Fin 3) (p : Fin 2) : Off := match k with
  | 0 => ⟨_, k0_off2_inb d s p 0⟩ | 1 => ⟨_, k0_off4_inb d s p 0⟩ | 2 => ⟨_, k0_off2_inb d s p 1⟩ | 3 => ⟨_, k0_off4_inb d s p 1⟩
/-- The tile whose sum is complete on the device. -/
def finO (d : Dev nD) (k : Fin 4) (p : Fin 2) : Off := match k with
  | 0 => ⟨_, off3_inb d 1 p (quart 0)⟩ | 1 => ⟨_, off5_inb d 1 p (quart 1)⟩ | 2 => ⟨_, off3_inb d 1 p (quart 2)⟩ | 3 => ⟨_, off5_inb d 1 p (quart 3)⟩
/-- The tile received at step `h` of the all-gather. -/
def gatO (d : Dev nD) (k : Fin 4) (h : Fin 3) (p : Fin 2) : Off := match k with
  | 0 => ⟨_, off5_inb d h p (quart 0)⟩ | 1 => ⟨_, off3_inb d h p (quart 1)⟩ | 2 => ⟨_, off5_inb d h p (quart 2)⟩ | 3 => ⟨_, off3_inb d h p (quart 3)⟩

/-! ## The operations, each followed by a rest `K` -/

abbrev PR (F : FTy → Type) := Prog (TpuEff nD τ sig (Elt F) Λ₀ .tc) PUnit

def startLoad (k : Fin 4) (o : Off) (K : PR F) : PR F :=
  .op (.enqueueDma (xT o) (.here (lS k)) (.dma (ldQ k)) (View.wordExact_bits rfl) ((View.wordExact_bits rfl).reshape _ _) ⟨Or.inl rfl, trivial⟩) fun _ => K
def waitLoad (k : Fin 4) (o : Off) (K : PR F) : PR F :=
  .op (.waitDma2 (ldQ k) (xT o) (lS k) (View.wordExact_bits rfl) ((View.wordExact_bits rfl).reshape _ _)) fun _ => K
def startRes (k : Fin 4) (o : Off) (K : PR F) : PR F :=
  .op (.enqueueDma (rT' o) (.here (tS k 1)) (.dma (rsQ k)) (View.wordExact_bits rfl) ((View.wordExact_bits rfl).reshape _ _) ⟨Or.inl rfl, trivial⟩) fun _ => K
def waitRes (k : Fin 4) (o : Off) (K : PR F) : PR F :=
  .op (.waitDma2 (rsQ k) (rT' o) (tS k 1) (View.wordExact_bits rfl) ((View.wordExact_bits rfl).reshape _ _)) fun _ => K
def startStore (k : Fin 4) (j : Fin 2) (o : Off) (K : PR F) : PR F :=
  .op (.enqueueDma (tS k j) (.here (oT o)) (.dma (stQ k j)) ((View.wordExact_bits rfl).reshape _ _) (View.wordExact_bits rfl) ⟨Or.inl rfl, trivial⟩) fun _ => K
def waitStore (k : Fin 4) (j : Fin 2) (o : Off) (K : PR F) : PR F :=
  .op (.waitDma2 (stQ k j) (tS k j) (oT o) ((View.wordExact_bits rfl).reshape _ _) (View.wordExact_bits rfl)) fun _ => K
/-- Start hop `t` of stream `k` out of `src`. -/
def startHop (d : Dev nD) (k : Fin 4) (b : Fin 2) (j : Fin 5) (src : Memref sig .tc .vmem S256x2048 .bf16) (hs : src.view.WordExact) (K : PR F) : PR F :=
  .op (.enqueueDma src (.remote (Dev.tc (dstD d k)) (vS k j) (.dma (sdQ k b))) (.dma (rvQ k j)) hs (wxV k j) ⟨⟨rfl, Or.inl rfl⟩, trivial⟩) fun _ => K
/-- Wait for hop `t` of stream `k` on both its semaphores. -/
def waitHop (k : Fin 4) (b : Fin 2) (j : Fin 5) (src : Memref sig .tc .vmem S256x2048 .bf16) (hs : src.view.WordExact) (K : PR F) : PR F :=
  .op (.waitDma2 (sdQ k b) (vS k j) src (wxV k j) hs) fun _ =>
  .op (.waitDma2 (rvQ k j) src (vS k j) hs (wxV k j)) fun _ => K

abbrev V3 (F : FTy → Type) := Vec F S1x256x2048 .f32
abbrev V4b (F : FTy → Type) := Vec F S1x1x256x2048 .bf16
abbrev V4f (F : FTy → Type) := Vec F S1x1x256x2048 .f32

def ldL (k : Fin 4) (K : V3 F → PR F) : PR F := .op (.load lM (rL k) (View.loadsAt_vmem h_S1x256x2048)) K
def ldS (k : Fin 4) (j : Fin 2) (K : V4b F → PR F) : PR F := .op (.load sM (r2 k j) (View.loadsAt_vmem h_S1x1x256x2048)) K
def ldV (k : Fin 4) (j : Fin 5) (K : V4b F → PR F) : PR F := .op (.load vM (r5 k j) (View.loadsAt_vmem h_S1x1x256x2048)) K
def ldT (k : Fin 4) (j : Fin 2) (K : V4f F → PR F) : PR F := .op (.load tM (r2 k j) (View.loadsAt_vmem h_S1x1x256x2048)) K
abbrev rG : Rect S2048 := Rect.unit (s := S2048) ![0] S2048.size inb_S2048_S2048_0
def ldG (K : Vec F S2048 .f32 → PR F) : PR F := .op (.load gM rG (View.loadsAt_vmem h_S2048)) K

theorem storesS (k : Fin 4) (j : Fin 2) : (sM.access (r2 k j)).Stores Finset.univ :=
  View.stores_vmem h_S1x1x256x2048
    (View.storeExact_slice_whole cc0_scratch1 rfl (r2 k j) (by decide) rfl ⟨0, rfl⟩ ⟨128, rfl⟩) (fun _ => rfl)

def stS (k : Fin 4) (j : Fin 2) (w : V4b F) (K : PR F) : PR F :=
  .op (.store sM (r2 k j) w Finset.univ (storesS k j) (.inl rfl)) fun _ => K
def stT (k : Fin 4) (j : Fin 2) (w : V4f F) (K : PR F) : PR F :=
  .op (.store tM (r2 k j) w Finset.univ (View.stores_vmem_bits h_S1x1x256x2048 rfl (by decide)) (.inl rfl)) fun _ => K

/-! ## The steps -/

/-- Hop `t` uses slot `t % 5` of the receive buffer and parity `t % 2` of the send semaphores. -/
def sl5 (t : ℕ) : Fin 5 := ⟨t % 5, Nat.mod_lt _ (by decide)⟩
def par (t : ℕ) : Fin 2 := ⟨t % 2, Nat.mod_lt _ (by decide)⟩

/-- Hop `t` out of the send buffer. -/
def hopS (d : Dev nD) (k : Fin 4) (t : ℕ) (K : PR F) : PR F := startHop d k (par t) (sl5 t) (sS k (par t)) (wxS k (par t)) K
/-- Hop `t` forwarding what hop `t - 1` brought. -/
def hopV (d : Dev nD) (k : Fin 4) (t : ℕ) (K : PR F) : PR F := startHop d k (par t) (sl5 t) (vS k (sl5 (t - 1))) (wxV k (sl5 (t - 1))) K
def waitS (k : Fin 4) (t : ℕ) (K : PR F) : PR F := waitHop k (par t) (sl5 t) (sS k (par t)) (wxS k (par t)) K
def waitV (k : Fin 4) (t : ℕ) (K : PR F) : PR F := waitHop k (par t) (sl5 t) (vS k (sl5 (t - 1))) (wxV k (sl5 (t - 1))) K

/-- The device's own tile of pass `p` into the send buffer, its hop (`t = 6p`) started and the next tile's load. -/
def sendOwn (d : Dev nD) (k : Fin 4) (p : Fin 2) (K : PR F) : PR F :=
  waitLoad k (ownO d k p) <| ldL k fun l => ldS k (par (6 * p.val)) fun _ => stS k (par (6 * p.val)) (k0_pay1 l) <|
  hopS d k (6 * p.val) <| startLoad k (recvO d k 0 p) K

/-- A reduce-scatter step `s < 2` (`t = 6p + s`): the partial sum received plus the device's own tile goes on. -/
def stepRS (d : Dev nD) (k : Fin 4) (p : Fin 2) (s s' : Fin 3) (t : ℕ) (K : PR F) : PR F :=
  waitLoad k (recvO d k s p) <| waitS k t <| ldV k (sl5 t) fun v => ldL k fun l => ldS k (par (t + 1)) fun _ =>
  stS k (par (t + 1)) (k0_pay5 v l) <| hopS d k (t + 1) <| startLoad k (recvO d k s' p) K

/-- The first half of the last reduce-scatter step (`t = 6p + 2`): the sum completed, the residual added, the row
    normalised; the result goes on. `K` gets the normalised tile. -/
def stepFin (d : Dev nD) (k : Fin 4) (p : Fin 2) (t : ℕ) (K : FVec F S256x2048 .f32 → PR F) : PR F :=
  waitLoad k (recvO d k 2 p) <| waitS k t <| ldV k (sl5 t) fun v => ldL k fun l => waitRes k (finO d k p) <|
  ldT k 1 fun r => ldG fun g => ldS k (par (t + 1)) fun _ =>
  stS k (par (t + 1)) (k0_pay16 (k0_pay14 v l) r g) <| hopS d k (t + 1) <| K (k0_pay15 (k0_pay14 v l) r g)

/-- Its second half: the normalised tile is written out. -/
def putFin (d : Dev nD) (k : Fin 4) (p : Fin 2) (y : FVec F S256x2048 .f32) (K : PR F) : PR F :=
  ldT k 0 fun _ => stT k 0 (k0_pay17 y) <| startStore k 0 (finO d k p) K

/-- The tile that hop `t` brought is written out through slot `j`. -/
def putGat (d : Dev nD) (k : Fin 4) (p : Fin 2) (h : Fin 3) (j : Fin 2) (t : ℕ) (K : PR F) : PR F :=
  ldV k (sl5 t) fun v => ldT k j fun _ => stT k j (k0_pay29 v) <| startStore k j (gatO d k h p) K

/-! ## The rows: one step of each stream, `k = 0 … 3` in order -/

def each (f : Fin 4 → PR F → PR F) (K : PR F) : PR F := f 0 <| f 1 <| f 2 <| f 3 K

def rowOwn (d : Dev nD) (K : PR F) : PR F :=
  each (fun k K => startLoad k (ownO d k 0) K) <| each (fun k K => sendOwn d k 0 <| startRes k (finO d k 0) K) K
def rowRS (d : Dev nD) (p : Fin 2) (s s' : Fin 3) (t : ℕ) (K : PR F) : PR F := each (fun k K => stepRS d k p s s' t K) K
def rowFin0 (d : Dev nD) (K : PR F) : PR F :=
  each (fun k K => stepFin d k 0 2 fun y => putFin d k 0 y <| startLoad k (ownO d k 1) K) K
def rowFin1 (d : Dev nD) (K : PR F) : PR F :=
  each (fun k K => stepFin d k 1 8 fun y => waitStore k 0 (gatO d k 1 0) <| putFin d k 1 y K) K
def rowGat0 (d : Dev nD) (p : Fin 2) (t : ℕ) (K : PR F) : PR F :=
  each (fun k K => waitS k t <| hopV d k (t + 1) <| putGat d k p 0 1 t K) K
def rowGat1 (d : Dev nD) (K : PR F) : PR F :=
  each (fun k K => waitV k 4 <| hopV d k 5 <| sendOwn d k 1 <| waitStore k 0 (finO d k 0) <| putGat d k 0 1 0 4 K) K
def rowGat1' (d : Dev nD) (K : PR F) : PR F :=
  each (fun k K => waitV k 10 <| hopV d k 11 <| waitStore k 0 (finO d k 1) <| putGat d k 1 1 0 10 K) K
def rowGat2 (d : Dev nD) (p : Fin 2) (t : ℕ) (K : PR F) : PR F :=
  each (fun k K => waitV k t <| waitStore k 1 (gatO d k 0 p) <| putGat d k p 2 1 t K) K
def rowRes (d : Dev nD) (K : PR F) : PR F :=
  each (fun k K => waitStore k 1 (gatO d k 2 0) <| startRes k (finO d k 1) K) K
def rowEnd (d : Dev nD) (K : PR F) : PR F :=
  each (fun k K => waitStore k 0 (gatO d k 1 1) <| waitStore k 1 (gatO d k 2 1) K) K

/-- The whole body after the device's number is read and the neighbours have met. -/
def tailP (d : Dev nD) : PR F :=
  rowOwn d <|
  rowRS d 0 0 1 0 <| rowRS d 0 1 2 1 <| rowFin0 d <| rowGat0 d 0 3 <| rowGat1 d <| rowGat2 d 0 5 <|
  rowRes d <|
  rowRS d 1 0 1 6 <| rowRS d 1 1 2 7 <| rowFin1 d <| rowGat0 d 1 9 <| rowGat1' d <| rowGat2 d 1 11 <|
  rowEnd d <| .ret ⟨⟩

/-- The kernel's body. -/
def bodyP : PR F :=
  .op .deviceId fun d =>
  .op (.semSignal ((⟨k0_dev1 d, k0_dev1_lt d⟩ : Dev nD), .tc) barQ (1#32).toInt) fun _ =>
  .op (.semSignal ((⟨k0_dev2 d, k0_dev2_lt d⟩ : Dev nD), .tc) barQ (1#32).toInt) fun _ =>
  .op (.semWait barQ (2#32).toInt) fun _ => tailP d

end Cert.KernelIdeal.AR

end
-- ==== Proof.Vals.lean ====
/-
The values the kernel computes: what each hop of each stream carries, and what each tile of the result is, as functions
of the contents of the devices' arguments at launch.
-/
module

public import proofs.«01_k».proof.Proof.Prog

@[expose] public section

noncomputable section

namespace Cert.KernelIdeal.AR

open Cert.KernelIdeal Cert.KernelIdeal.Gen
open Idealize.ShloMosaic Idealize.ShloMosaic.TcCoe

variable {F : FTy → Type} [FloatOps F]

/-! ## The rings -/

/-- The streams of one ring beside those of the other. -/
def pair (k : Fin 4) : Fin 4 := match k with | 0 => 1 | 1 => 0 | 2 => 3 | 3 => 2
theorem pair_pair (k : Fin 4) : pair (pair k) = k := by revert k; decide

/-- The device a stream's transfers come from: the one the other ring's go to. -/
def srcD (d : Dev nD) (k : Fin 4) : Dev nD := dstD d (pair k)
theorem dstD_srcD (d : Dev nD) (k : Fin 4) : dstD (srcD d k) k = d := by revert d k; decide +kernel
theorem srcD_dstD (d : Dev nD) (k : Fin 4) : srcD (dstD d k) k = d := by revert d k; decide +kernel

/-! ## The tiles -/

/-- The tiles of a device's own array that stream `k` reads in pass `p`, in order: its own chunk's, then those of the
    three steps of the reduce-scatter. -/
def xO (d : Dev nD) (k : Fin 4) (p : Fin 2) (i : Fin 4) : Off := match i with
  | 0 => ownO d k p | 1 => recvO d k 0 p | 2 => recvO d k 1 p | 3 => recvO d k 2 p

/-- The tiles of the result stream `k` writes in pass `p`, in order: the one it completes, then those gathered. -/
def oO (d : Dev nD) (k : Fin 4) (p : Fin 2) (i : Fin 4) : Off := match i with
  | 0 => finO d k p | 1 => gatO d k 0 p | 2 => gatO d k 1 p | 3 => gatO d k 2 p

/-! ## The tile arithmetic -/

abbrev T32 (F : FTy → Type) := FVec F S256x2048 .f32
abbrev T16 (F : FTy → Type) := FVec F S256x2048 .bf16

/-- A tile at the shape a load of its slot reads, and back. -/
abbrev up3 (x : T32 F) : V3 F := shapeCast S1x256x2048 x (by decide)
abbrev up4 {φ : FTy} (x : FVec F S256x2048 φ) : FVec F S1x1x256x2048 φ := shapeCast S1x1x256x2048 x shapeCasts_S256x2048_S1x1x256x2048
abbrev dn4 {φ : FTy} (x : FVec F S1x1x256x2048 φ) : FVec F S256x2048 φ := shapeCast S256x2048 x shapeCasts_S1x1x256x2048_S256x2048

/-- A tile rounded for the wire, and widened. -/
def tr (x : T32 F) : T16 F := truncf .bf16 x bitsLt_bf16_f32
def ex (x : T16 F) : T32 F := extf .f32 x bitsLt_bf16_f32
/-- A received partial sum plus the device's own tile. -/
def accT (v : T16 F) (l : T32 F) : T32 F := addf (ex v) l
/-- The completed sum plus the residual, normalised by rows and scaled by `g`. -/
def finT (a r : T32 F) (g : FVec F S2048 .f32) : T32 F := k0_pay15 a (up4 r) g

variable (m : (ℓ : Loc nD τ sig) → Buf (Elt F) ℓ)

/-- Device `c`'s tile at `o` of the array summed, of the residual; the scale. -/
def xv (c : Dev nD) (o : Off) : T32 F := (xT o).view.read (Elt F) (m ((c : Thread nD τ).loc main_arg0))
def rv (c : Dev nD) (o : Off) : T32 F := (rT' o).view.read (Elt F) (m ((c : Thread nD τ).loc main_arg1))
def gv (c : Dev nD) : FVec F S2048 .f32 := m ((c : Thread nD τ).loc main_arg2)

/-- The pass hop `t` belongs to. -/
def pas (t : ℕ) : Fin 2 := ⟨t / 6 % 2, Nat.mod_lt _ (by decide)⟩

/-- What device `d` normalises in pass `p`, from the partial sum `v` received last. -/
def outT (k : Fin 4) (d : Dev nD) (p : Fin 2) (v : T16 F) : T32 F :=
  finT (accT v (xv m d (recvO d k 2 p))) (rv m d (finO d k p)) (gv m d)

/-- What device `d` sends with hop `t + 1` of stream `k`, having received `v` with hop `t`. -/
def nextV (k : Fin 4) (d : Dev nD) (t : ℕ) (v : T16 F) : T16 F :=
  match t % 6 with
  | 0 => tr (accT v (xv m d (recvO d k 0 (pas t))))
  | 1 => tr (accT v (xv m d (recvO d k 1 (pas t))))
  | 2 => tr (outT m k d (pas t) v)
  | 3 => v
  | 4 => v
  | _ => tr (xv m d (ownO d k 1))

/-- What device `d` sends with hop `t` of stream `k`, and what it receives. -/
def sent (k : Fin 4) : ℕ → Dev nD → T16 F
  | 0, d => tr (xv m d (ownO d k 0))
  | t + 1, d => nextV m k d t (sent k t (srcD d k))
def rcvd (k : Fin 4) (t : ℕ) (d : Dev nD) : T16 F := sent m k t (srcD d k)

theorem sent_succ (k : Fin 4) (t : ℕ) (d : Dev nD) : sent m k (t + 1) d = nextV m k d t (rcvd m k t d) := rfl

/-- The result's tiles on device `d`: the one stream `k` completes in pass `p`, then those gathered. -/
def ov (d : Dev nD) (k : Fin 4) (p : Fin 2) (i : Fin 4) : T32 F := match i with
  | 0 => outT m k d p (rcvd m k (6 * p.val + 2) d)
  | 1 => ex (rcvd m k (6 * p.val + 3) d)
  | 2 => ex (rcvd m k (6 * p.val + 4) d)
  | 3 => ex (rcvd m k (6 * p.val + 5) d)

section At
variable (k : Fin 4) (d : Dev nD) {t : ℕ} {p : Fin 2}
theorem sent_acc0 (h : t % 6 = 0) (hp : pas t = p) : sent m k (t + 1) d = tr (accT (rcvd m k t d) (xv m d (recvO d k 0 p))) := by
  rw [sent_succ]; unfold nextV; rw [h, hp]; rfl
theorem sent_acc1 (h : t % 6 = 1) (hp : pas t = p) : sent m k (t + 1) d = tr (accT (rcvd m k t d) (xv m d (recvO d k 1 p))) := by
  rw [sent_succ]; unfold nextV; rw [h, hp]; rfl
theorem sent_fin (h : t % 6 = 2) (hp : pas t = p) : sent m k (t + 1) d = tr (outT m k d p (rcvd m k t d)) := by
  rw [sent_succ]; unfold nextV; rw [h, hp]; rfl
theorem sent_fwd (h : t % 6 = 3 ∨ t % 6 = 4) : sent m k (t + 1) d = rcvd m k t d := by
  rw [sent_succ]; unfold nextV; rcases h with h | h <;> (rw [h]; rfl)
theorem sent_own : sent m k 6 d = tr (xv m d (ownO d k 1)) := sent_succ m k 5 d
theorem ov_fin (h : 6 * p.val + 2 = t) : outT m k d p (rcvd m k t d) = ov m d k p 0 := by subst h; unfold ov; rfl
theorem ov_gat0 (h : 6 * p.val + 3 = t) : ex (rcvd m k t d) = ov m d k p 1 := by subst h; unfold ov; rfl
theorem ov_gat1 (h : 6 * p.val + 4 = t) : ex (rcvd m k t d) = ov m d k p 2 := by subst h; unfold ov; rfl
theorem ov_gat2 (h : 6 * p.val + 5 = t) : ex (rcvd m k t d) = ov m d k p 3 := by subst h; unfold ov; rfl
end At

/-! ## The printed payloads as tile arithmetic -/

omit [FloatOps F] in
theorem dn4_up4 {φ : FTy} (x : FVec F S256x2048 φ) : dn4 (up4 x) = x := shapeCast_shapeCast x _ _
omit [FloatOps F] in
theorem dn3_up3 (x : T32 F) : shapeCast S256x2048 (up3 x) shapeCasts_S1x256x2048_S256x2048 = x := shapeCast_shapeCast x _ _

theorem pay_own (l : T32 F) : dn4 (F := F) (k0_pay1 (up3 l)) = tr l := by
  unfold k0_pay1 tr; simp only [dn4, up3, shapeCast_shapeCast]
theorem pay_acc (v : T16 F) (l : T32 F) : dn4 (F := F) (k0_pay5 (up4 v) (up3 l)) = tr (accT v l) := by
  unfold k0_pay5 tr accT ex; simp only [dn4, up4, up3, shapeCast_shapeCast]
theorem pay_sum (v : T16 F) (l : T32 F) : k0_pay14 (up4 v) (up3 l) = accT v l := by
  unfold k0_pay14 accT ex; simp only [dn4, up4, up3, shapeCast_shapeCast]
theorem pay_fin (a r : T32 F) (g : FVec F S2048 .f32) : dn4 (F := F) (k0_pay16 a (up4 r) g) = tr (finT a r g) := by
  unfold k0_pay16 tr finT; simp only [dn4, shapeCast_shapeCast]
theorem pay_put (y : T32 F) : dn4 (F := F) (k0_pay17 y) = y := by unfold k0_pay17; simp only [dn4, shapeCast_shapeCast]
theorem pay_gat (v : T16 F) : dn4 (F := F) (k0_pay29 (up4 v)) = ex v := by
  unfold k0_pay29 ex; simp only [dn4, up4, shapeCast_shapeCast]

end Cert.KernelIdeal.AR

end
-- ==== Proof.Geo.lean ====
/-
Where the tiles and the slots lie: the tiles of the array summed and those of the result each cover their array, two
by two apart; so do the slots of each scratch buffer.
-/
module

public import proofs.«01_k».proof.Proof.Vals

@[expose] public section

noncomputable section

namespace Cert.KernelIdeal.AR

open Cert.KernelIdeal Cert.KernelIdeal.Gen
open Idealize.ShloMosaic Idealize.ShloMosaic.TcCoe

/-! ## The tiles' rows -/

/-- The chunk `i` away from `d` against the way stream `k` sends. -/
def back (d : Dev nD) (k i : Fin 4) : Fin 4 := if k.val % 2 = 0 then d - i else d + i
/-- The chunk of the `i`th tile of the result on `d`. -/
def into (d : Dev nD) (k i : Fin 4) : Fin 4 := if k.val % 2 = 0 then d + 1 - i else d - 1 + i

/-- The first row of the tile of stream `k`, pass `p` in the chunk `ch`. -/
def row (ch k : Fin 4) (p : Fin 2) : ℕ := 2048 * ch.val + 1024 * p.val + 256 * (quart k).val

theorem xO_o (d : Dev nD) (k : Fin 4) (p : Fin 2) (i : Fin 4) : (xO d k p i).o = ![row (back d k i) k p, 0] := by
  revert d k p i; decide +kernel
theorem oO_o (d : Dev nD) (k : Fin 4) (p : Fin 2) (i : Fin 4) : (oO d k p i).o = ![row (into d k i) k p, 0] := by
  revert d k p i; decide +kernel
theorem finO_o (d : Dev nD) (k : Fin 4) (p : Fin 2) : (finO d k p).o = ![row (into d k 0) k p, 0] := oO_o d k p 0

theorem quart_inj : Function.Injective quart := by decide
theorem back_inj (d : Dev nD) (k : Fin 4) : Function.Injective (back d k) := by revert d k; decide +kernel
theorem into_inj (d : Dev nD) (k : Fin 4) : Function.Injective (into d k) := by revert d k; decide +kernel

/-- Two tiles at the rows of different places are apart. -/
theorem row_apart {ch ch' k k' : Fin 4} {p p' : Fin 2} (h : (ch, k, p) ≠ (ch', k', p')) :
    row ch k p + 256 ≤ row ch' k' p' ∨ row ch' k' p' + 256 ≤ row ch k p := by
  unfold row
  have hq : k = k' ∨ (quart k).val ≠ (quart k').val := by
    by_cases e : k = k'
    · exact Or.inl e
    · exact Or.inr fun e' => e (quart_inj (Fin.ext e'))
  have h1 := (quart k).isLt
  have h2 := (quart k').isLt
  have h3 := p.isLt
  have h4 := p'.isLt
  rcases hq with rfl | hq
  · by_cases e : p = p'
    · subst e
      have : ch.val ≠ ch'.val := fun e => h (by rw [Fin.ext e])
      omega
    · have : p.val ≠ p'.val := fun e' => e (Fin.ext e')
      omega
  · omega

theorem rT_disjoint {o o' : Off} {ch ch' k k' : Fin 4} {p p' : Fin 2} (ho : o.o = ![row ch k p, 0]) (ho' : o'.o = ![row ch' k' p', 0])
    (h : (ch, k, p) ≠ (ch', k', p')) : Disjoint (rT o).set (rT o').set := by
  refine Rect.unit_disjoint 0 ?_
  rw [ho, ho']
  exact row_apart h

/-- A tile of a whole stream: the stream, the pass, the number. -/
abbrev TI : Type := Fin 4 × (Fin 2 × Fin 4)

theorem xTile_disjoint (d : Dev nD) (t t' : TI) (h : t ≠ t') :
    Disjoint (rT (xO d t.1 t.2.1 t.2.2)).set (rT (xO d t'.1 t'.2.1 t'.2.2)).set := by
  obtain ⟨k, p, i⟩ := t
  obtain ⟨k', p', i'⟩ := t'
  refine rT_disjoint (xO_o _ _ _ _) (xO_o _ _ _ _) fun e => h ?_
  obtain ⟨e1, e2, e3⟩ : back d k i = back d k' i' ∧ k = k' ∧ p = p' := by simpa using e
  subst e2 e3
  rw [back_inj d k e1]
theorem oTile_disjoint (d : Dev nD) (t t' : TI) (h : t ≠ t') :
    Disjoint (rT (oO d t.1 t.2.1 t.2.2)).set (rT (oO d t'.1 t'.2.1 t'.2.2)).set := by
  obtain ⟨k, p, i⟩ := t
  obtain ⟨k', p', i'⟩ := t'
  refine rT_disjoint (oO_o _ _ _ _) (oO_o _ _ _ _) fun e => h ?_
  obtain ⟨e1, e2, e3⟩ : into d k i = into d k' i' ∧ k = k' ∧ p = p' := by simpa using e
  subst e2 e3
  rw [into_inj d k e1]
theorem fTile_disjoint (d : Dev nD) (t t' : Fin 4 × Fin 2) (h : t ≠ t') :
    Disjoint (rT (finO d t.1 t.2)).set (rT (finO d t'.1 t'.2)).set :=
  oTile_disjoint d (t.1, t.2, 0) (t'.1, t'.2, 0) fun e => h (by simpa [Prod.ext_iff] using e)

/-! ## The slots -/

theorem rL_disjoint (k k' : Fin 4) (h : k ≠ k') : Disjoint (rL k).set (rL k').set := by
  refine Rect.unit_disjoint 0 ?_
  have : k.val ≠ k'.val := fun e => h (Fin.ext e)
  show k.val + 1 ≤ k'.val ∨ k'.val + 1 ≤ k.val
  omega
theorem r2_disjoint (x x' : Fin 4 × Fin 2) (h : x ≠ x') : Disjoint (r2 x.1 x.2).set (r2 x'.1 x'.2).set := by
  by_cases e : x.1 = x'.1
  · refine Rect.unit_disjoint 1 ?_
    have : x.2.val ≠ x'.2.val := fun e' => h (Prod.ext e (Fin.ext e'))
    show x.2.val + 1 ≤ x'.2.val ∨ x'.2.val + 1 ≤ x.2.val
    omega
  · refine Rect.unit_disjoint 0 ?_
    have : x.1.val ≠ x'.1.val := fun e' => e (Fin.ext e')
    show x.1.val + 1 ≤ x'.1.val ∨ x'.1.val + 1 ≤ x.1.val
    omega
theorem r5_disjoint (x x' : Fin 4 × Fin 5) (h : x ≠ x') : Disjoint (r5 x.1 x.2).set (r5 x'.1 x'.2).set := by
  by_cases e : x.1 = x'.1
  · refine Rect.unit_disjoint 1 ?_
    have : x.2.val ≠ x'.2.val := fun e' => h (Prod.ext e (Fin.ext e'))
    show x.2.val + 1 ≤ x'.2.val ∨ x'.2.val + 1 ≤ x.2.val
    omega
  · refine Rect.unit_disjoint 0 ?_
    have : x.1.val ≠ x'.1.val := fun e' => e (Fin.ext e')
    show x.1.val + 1 ≤ x'.1.val ∨ x'.1.val + 1 ≤ x.1.val
    omega

/-! ## As elements of the buffers -/

theorem xT_set (o : Off) : (xT o).view.set = (rT o).set.map ((xM.slice (Rect.unit (s := S1x8192x2048) ![0, 0, 0] S1x8192x2048.size
    inb_S1x8192x2048_S1x8192x2048_0_0_0) (fun _ => rfl)).squeeze S8192x2048 squeezes_S1x8192x2048_S8192x2048).view.emb :=
  View.set_slice _ _
theorem xT_disjoint (d : Dev nD) (t t' : TI) (h : t ≠ t') :
    Disjoint (xT (xO d t.1 t.2.1 t.2.2)).view.set (xT (xO d t'.1 t'.2.1 t'.2.2)).view.set := by
  rw [xT_set, xT_set]
  exact (Finset.disjoint_map _).mpr (xTile_disjoint d t t' h)
theorem oT_set (o : Off) : (oT o).view.set = (rT o).set := View.set_slice_whole _ _
theorem rT'_set (o : Off) : (rT' o).view.set = (rT o).set := View.set_slice_whole _ _
theorem lS_set (k : Fin 4) : (lS k).view.set = (rL k).set := (View.set_reshape _ _).trans (View.set_slice_whole _ _)
theorem sS_set (k : Fin 4) (j : Fin 2) : (sS k j).view.set = (r2 k j).set := (View.set_reshape _ _).trans (View.set_slice_whole _ _)
theorem vS_set (k : Fin 4) (j : Fin 5) : (vS k j).view.set = (r5 k j).set := (View.set_reshape _ _).trans (View.set_slice_whole _ _)
theorem tS_set (k : Fin 4) (j : Fin 2) : (tS k j).view.set = (r2 k j).set := (View.set_reshape _ _).trans (View.set_slice_whole _ _)

end Cert.KernelIdeal.AR

end
-- ==== Proof.Own.lean ====
/-
The resource algebra of the proof, and the ownership of a memref at given contents: how the vector loads and stores,
the local transfers and their waits act on it.
-/
module

public import proofs.«01_k».proof.Proof.Prog
public import Idealize.ShloMosaic.Lib.Rounds
public import Idealize.ShloMosaic.Lib.Transfers
public import Idealize.ShloMosaic.Lib.Pipeline.Kit
public import Idealize.ShloMosaic.Lib.Pipeline.Launch
public import Idealize.ShloMosaic.Lib.Pipeline.Value

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The cells' rounds (two duty names) beside the counters of the local transfers, beside the pipeline's own algebra. -/
abbrev UB : Type := URounds (GSem nD τ sig) Bool
abbrev UU : Type := UR sig nD τ × (UB × Counters)

abbrev MM (F : FTy → Type) := MT nD τ sig ℕ (Elt F) ℕ UU ℕ
local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (τ := τ) (sig := sig) (Ix := ℕ) (Val := Elt F) (Name := ℕ) (U := UU) (Lvl := ℕ)).toEmb
abbrev EC : UEmb Counters (MT nD τ sig ℕ (Elt F) ℕ UU ℕ) := countersEmb

omit [FloatOps F] in
instance ER_landsIn : (ER (F := F)).LandsIn (upEmb : UEmb _ 𝕄) := by unfold ER; infer_instance

/-! ## Ownership -/

section Own
variable {sp : Space} {s s' : Shape} {e : EltTy}

/-- Device `c` owns, at share `q`, the elements of `m`, which reads `X`. -/
def owns (c : Dev nD) (m : Memref sig .tc sp s e) (q : PosShare TreeShare) (X : s.Idx → Elt F e) : sProp 𝕄 :=
  iprop(∃ f : Buf (Elt F) (m.view.loc (c : Thread nD τ)), ⌜m.view.read (Elt F) f = X⌝ ∗ (m.view.loc (c : Thread nD τ) ↦[m.view.set]{q} f))

/-- At any contents. -/
def free (c : Dev nD) (m : Memref sig .tc sp s e) : sProp 𝕄 := iprop(∃ X, owns (F := F) c m fullShare X)

omit [FloatOps F] in
instance owns_storable (c : Dev nD) (m : Memref sig .tc sp s e) (q : PosShare TreeShare) (X : s.Idx → Elt F e) :
    BI.Storable (upEmb : UEmb _ 𝕄) (owns c m q X) := by unfold owns; infer_instance
omit [FloatOps F] in
instance free_storable (c : Dev nD) (m : Memref sig .tc sp s e) : BI.Storable (upEmb : UEmb _ 𝕄) (free (F := F) c m) := by
  unfold free; infer_instance

omit [FloatOps F] in
theorem owns_free (c : Dev nD) (m : Memref sig .tc sp s e) (X : s.Idx → Elt F e) : owns c m fullShare X ⊢ free (F := F) c m := by
  unfold free; iintro H; iexists X; iexact H

omit [FloatOps F] in
/-- What is owned at the full share splits into the two halves, and two halves make the whole, at either's contents. -/
theorem owns_split (c : Dev nD) (m : Memref sig .tc sp s e) (X : s.Idx → Elt F e) :
    owns c m fullShare X ⊢ iprop(owns c m fullShare.left X ∗ owns c m fullShare.right X) := by
  unfold owns
  iintro ⟨%f, %h, H⟩
  ihave H2 := (pointsTo_share (PosShare.mem_left_op_right fullShare)).1 $$ H
  icases H2 with ⟨H1, H2⟩
  isplitl [H1]
  · iexists f; isplitr; · ipureintro; exact h
    iexact H1
  · iexists f; isplitr; · ipureintro; exact h
    iexact H2

omit [FloatOps F] in
theorem owns_join (c : Dev nD) (m : Memref sig .tc sp s e) (X Y : s.Idx → Elt F e) :
    iprop(owns c m fullShare.left X ∗ owns c m fullShare.right Y) ⊢ owns c m fullShare X := by
  unfold owns
  iintro ⟨⟨%f, %h, H1⟩, ⟨%g, -, H2⟩⟩
  ihave H := (persistent_entails_right pointsTo_agree) $$ [H1 H2]
  · isplitl [H1] <;> iassumption
  icases H with ⟨%ha, H1, H2⟩
  iexists f
  isplitr; · ipureintro; exact h
  iapply (pointsTo_share (PosShare.mem_left_op_right fullShare)).2
  isplitl [H1]; · iexact H1
  rw [pointsTo_congr (g := g) fun i hi => (ha i (Finset.mem_inter.mpr ⟨hi, hi⟩)).1]
  iexact H2

variable {α : Type} {defs : Defs nD τ sig (Elt F) Λ₀} (𝒱 : Variants) (c : Dev nD) {Q : α → sProp (MM F)}

omit [FloatOps F] in
/-- A vector load of the rectangle behind a slot: it reads the slot's contents at the rectangle's shape. -/
theorem wp_loadSq {cs : CoreSpace} {m : Memref sig .tc cs s e} {r : Rect s} {h1 : ∀ a, r.stride a = 1} {sq : r.shape.Squeezes s'}
    {hl : m.view.LoadsAt r} {k : (r.shape.Idx → Elt F e) → Prog (TpuEff nD τ sig (Elt F) Λ₀ .tc) α}
    (hc : s'.ShapeCasts r.shape) {q : PosShare TreeShare} (X : s'.Idx → Elt F e) :
    owns c ((m.slice r h1).squeeze s' sq) q X
      ⊢ iprop((owns c ((m.slice r h1).squeeze s' sq) q X -∗ wp frame (wpE defs 𝒱 (c : Thread nD τ) none) Set.univ (k (shapeCast r.shape X hc)) Q)
          -∗ wp frame (wpE defs 𝒱 (c : Thread nD τ) none) Set.univ (.op (.load m r hl) k) Q) := by
  unfold owns
  iintro ⟨%f, %h, H⟩ Hk
  have hX : (m.access r).read (Elt F) f = shapeCast r.shape X hc := by
    rw [← h]
    exact (shapeCast_shapeCast (t := s') ((m.access r).read (Elt F) f) (sq.numel_eq) hc).symm
  iapply (wp_load_rect 𝒱 (c : Thread nD τ) none Set.univ (m := m) (r := r) (f := f)
    (S := ((m.slice r h1).squeeze s' sq).view.set) (by
      show (m.access r).set ⊆ ((m.view.slice r).reshape s' sq.numel_eq).set
      rw [View.set_reshape])) $$ [H]
  · iexact H
  iintro H
  rw [hX]
  iapply Hk
  iexists f
  isplitr; · ipureintro; exact h
  iexact H

omit [FloatOps F] in
/-- A vector store over the rectangle behind a slot: the slot has the stored contents. -/
theorem wp_storeSq {cs : CoreSpace} {m : Memref sig .tc cs s e} {r : Rect s} {h1 : ∀ a, r.stride a = 1} {sq : r.shape.Squeezes s'}
    {w : r.shape.Idx → Elt F e} {hx : (m.access r).Stores Finset.univ} {hm}
    {k : PUnit → Prog (TpuEff nD τ sig (Elt F) Λ₀ .tc) α}
    (hc : r.shape.ShapeCasts s') :
    free c ((m.slice r h1).squeeze s' sq)
      ⊢ iprop((owns c ((m.slice r h1).squeeze s' sq) fullShare (shapeCast s' w hc) -∗ wp frame (wpE defs 𝒱 (c : Thread nD τ) none) Set.univ (k ⟨⟩) Q)
          -∗ wp frame (wpE defs 𝒱 (c : Thread nD τ) none) Set.univ (.op (.store m r w Finset.univ hx hm) k) Q) := by
  unfold free owns
  iintro ⟨%X, %f, -, H⟩ Hk
  iapply (wp_store 𝒱 (c : Thread nD τ) none Set.univ (m := m) (r := r) (f := f) (Mk := Finset.univ)
    (S := ((m.slice r h1).squeeze s' sq).view.set) (by
      show (m.access r).setOn Finset.univ ⊆ ((m.view.slice r).reshape s' sq.numel_eq).set
      rw [View.set_reshape]; exact subset_rfl)) $$ [H]
  · iexact H
  iintro H
  iapply Hk
  iexists ((m.access r).write (Elt F) f w Finset.univ)
  isplitr
  · ipureintro
    show shapeCast s' ((m.access r).read (Elt F) ((m.access r).write (Elt F) f w Finset.univ)) sq.numel_eq = _
    rw [View.read_write_univ]
  iexact H

end Own

/-! ## Local transfers -/

section Dma
variable {sp sp' : Space} {s : Shape} {e : EltTy}
variable {α : Type} {defs : Defs nD τ sig (Elt F) Λ₀} (𝒱 : Variants) (c : Dev nD) {Q : α → sProp (MM F)}

/-- The transfer of `src` into `dst` in flight on the semaphore `q`: it delivers the destination with the source's contents and
    the source back. -/
def flying (c : Dev nD) (q : DmaSem sig) (N : ℕ) (src : Memref sig .tc sp s e) (dst : Memref sig .tc sp' s e) (sh : PosShare TreeShare)
    (X : s.Idx → Elt F e) : sProp 𝕄 :=
  Transfers.Flight EC (c : Thread nD τ) (.dma q) 0 N iprop(owns c dst fullShare X ∗ owns c src sh X)

/-- Device `c`'s DMA semaphore `q` at zero. -/
abbrev idle (c : Dev nD) (q : DmaSem sig) : sProp 𝕄 := semVal ((c : Thread nD τ), SemLoc.dma q) 0

omit [FloatOps F] in
theorem wp_start {src : Memref sig .tc sp s e} {dst : Memref sig .tc sp' s e} {q : DmaSem sig}
    {hsrc : src.view.WordExact} {hdst : dst.view.WordExact} {hsem : DmaTarget.Typed (nD := nD) (τ := τ) (p := .tc) sp (.dma q) (.here dst)}
    {k : PUnit → Prog (TpuEff nD τ sig (Elt F) Λ₀ .tc) α} {sh : PosShare TreeShare} (X : s.Idx → Elt F e)
    (N : ℕ) (hN : dst.view.amount (.dma q) = N) (hN0 : 0 < N) :
    iprop(owns c src sh X ∗ free c dst ∗ idle (F := F) c q)
      ⊢ iprop((flying c q N src dst sh X -∗ wp frame (wpE defs 𝒱 (c : Thread nD τ) none) Set.univ (k ⟨⟩) Q)
          -∗ wp frame (wpE defs 𝒱 (c : Thread nD τ) none) Set.univ (.op (.enqueueDma src (.here dst) (.dma q) hsrc hdst hsem) k) Q) := by
  unfold free flying owns
  iintro ⟨⟨%f, %h, Hs⟩, ⟨%Y, %g, -, Hd⟩, Hi⟩ Hk
  iapply (Transfers.wp_dmaLocal EC 𝒱 (c : Thread nD τ) none (src := src) (dst := dst) (fs := f) (fd := g) (Sd := dst.view.set) 0 N hN hN0 subset_rfl) $$ [Hs Hd Hi]
  · isplitl [Hs]; · iexact Hs
    isplitl [Hd]; · iexact Hd
    iexact Hi
  iintro Hf
  iapply Hk
  iapply (Transfers.Flight_mono (EC := EC) (c : Thread nD τ) (D := iprop(
    (dst.view.loc (c : Thread nD τ) ↦[dst.view.set]{fullShare} (dst.view.write (Elt F) g (src.view.read (Elt F) f) Finset.univ))
      ∗ (src.view.loc (c : Thread nD τ) ↦[src.view.set]{sh} f))) ?_) $$ Hf
  · iintro ⟨Hd, Hs⟩
    isplitl [Hd]
    · iexists _
      isplitr; swap; · iexact Hd
      ipureintro; rw [View.read_write_univ]; exact h
    · iexists f
      isplitr; · ipureintro; exact h
      iexact Hs

omit [FloatOps F] in
theorem wp_finish {src : Memref sig .tc sp s e} {dst : Memref sig .tc sp' s e} {q : DmaSem sig}
    {hsrc : src.view.WordExact} {hdst : dst.view.WordExact}
    {k : PUnit → Prog (TpuEff nD τ sig (Elt F) Λ₀ .tc) α} {sh : PosShare TreeShare} (X : s.Idx → Elt F e)
    (N : ℕ) (hN : dst.view.dmaCredit = N) {O : CellTallies nD τ sig ℕ} :
    iprop(flying c q N src dst sh X ∗ (∃ W, owes (c : Thread nD τ) O W) ∗ MayWait (c : Thread nD τ) (.dma q) 0 O)
      ⊢ iprop((iprop(owns c dst fullShare X ∗ owns c src sh X ∗ idle (F := F) c q ∗ (∃ W, owes (c : Thread nD τ) O W))
            -∗ wp frame (wpE defs 𝒱 (c : Thread nD τ) none) Set.univ (k ⟨⟩) Q)
          -∗ wp frame (wpE defs 𝒱 (c : Thread nD τ) none) Set.univ (.op (.waitDma2 q src dst hsrc hdst) k) Q) := by
  unfold flying
  iintro ⟨Hf, ⟨%W, HO⟩, HM⟩ Hk
  iapply (Transfers.wp_waitLocalO EC 𝒱 (c : Thread nD τ) none 0 hN) $$ [Hf HO HM]
  · isplitl [Hf]; · iexact Hf
    isplitl [HO]; · iexact HO
    iexact HM
  iintro ⟨⟨Hd, Hs⟩, Hi, HO⟩
  iapply Hk
  isplitl [Hd]; · iexact Hd
  isplitl [Hs]; · iexact Hs
  isplitl [Hi]; · iexact Hi
  iexists _; iexact HO

end Dma

/-! ## Credits -/

/-- What a hop's transfer credits. -/
abbrev NB : ℕ := (vS 0 0).view.dmaCredit
/-- What a tile's local transfer credits. -/
abbrev NF : ℕ := (lS 0).view.dmaCredit
theorem NB_pos : 0 < NB := View.dmaCredit_pos _ (by decide)
theorem NF_pos : 0 < NF := View.dmaCredit_pos _ (by decide)
theorem nb_v (k : Fin 4) (j : Fin 5) : (vS k j).view.dmaCredit = NB := rfl
theorem nb_s (k : Fin 4) (j : Fin 2) : (sS k j).view.dmaCredit = NB := rfl
theorem nf_l (k : Fin 4) : (lS k).view.dmaCredit = NF := rfl
theorem nf_t (k : Fin 4) (j : Fin 2) : (tS k j).view.dmaCredit = NF := rfl
theorem nf_o (o : Off) : (oT o).view.dmaCredit = NF := rfl

end Cert.KernelIdeal.AR

end
-- ==== Proof.Proto.lean ====
/-
The protocol between the devices.

Three kinds of cells belong to it, on every device `c`: the barrier semaphore; per stream `k` two send semaphores (hop
`t` uses the one of parity `t % 2`, as its round `t / 2`); per stream five receive semaphores (hop `t` uses the one of
number `t % 5`, as its round `t / 5`).

* Barrier: each neighbour adds one, the device waits for two. The left neighbour hands over its receive slots of the odd
  streams (which the device's odd streams write), the right neighbour those of the even streams.
* Send cell, hop `t`: credited by the device's own transfer, waited for by the device. It hands back what the transfer
  reads: half of the receive slot forwarded (the two gather hops of a pass), otherwise the send slot.
* Receive cell, hop `t`: credited by the transfer of the device before in the stream, waited for by the device. It hands
  over the slot with what was sent, and the right to write into those slots of the sender that the sender has done with.
-/
module

public import proofs.«01_k».proof.Proof.Own
public import proofs.«01_k».proof.Proof.Vals

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

/-! ## The cells -/

/-- What a semaphore is for. -/
inductive CK where
  | bar | snd (k : Fin 4) (b : Fin 2) | rcv (k : Fin 4) (j : Fin 5) | other
  deriving DecidableEq

def ck : SemLoc sig → CK
  | .reg s => if s = barQ then .bar else .other
  | .dma q => if 25 ≤ q.val then .rcv (Fin.ofNat 4 ((q.val - 25) / 5)) (Fin.ofNat 5 ((q.val - 25) % 5))
      else if 17 ≤ q.val then .snd (Fin.ofNat 4 ((q.val - 17) / 2)) (Fin.ofNat 2 ((q.val - 17) % 2)) else .other

theorem ck_bar : ck (.reg barQ) = .bar := by decide +kernel
theorem ck_snd (k : Fin 4) (b : Fin 2) : ck (.dma (sdQ k b)) = .snd k b := by revert k b; decide +kernel
theorem ck_rcv (k : Fin 4) (j : Fin 5) : ck (.dma (rvQ k j)) = .rcv k j := by revert k j; decide +kernel
theorem ck_ld (k : Fin 4) : ck (.dma (ldQ k)) = .other := by revert k; decide +kernel
theorem ck_rs (k : Fin 4) : ck (.dma (rsQ k)) = .other := by revert k; decide +kernel
theorem ck_st (k : Fin 4) (j : Fin 2) : ck (.dma (stQ k j)) = .other := by revert k j; decide +kernel

abbrev bcell (c : Dev nD) : GSem nD τ sig := ((c : Thread nD τ), .reg barQ)
/-- The send and receive cells of hop `t`. -/
abbrev scell (c : Dev nD) (k : Fin 4) (t : ℕ) : GSem nD τ sig := ((c : Thread nD τ), .dma (sdQ k (par t)))
abbrev rcell (c : Dev nD) (k : Fin 4) (t : ℕ) : GSem nD τ sig := ((c : Thread nD τ), .dma (rvQ k (sl5 t)))

/-! ## What the cells hand over -/

/-- The right to write hop `u` of stream `k` into device `d`. -/
def Perm (d : Dev nD) (k : Fin 4) (u : ℕ) : sProp 𝕄 := iprop(free (F := F) d (vS k (sl5 u)) ∗ reached ER (rcell d k u) (u / 5))
def perms (d : Dev nD) (k : Fin 4) : List ℕ → sProp 𝕄
  | [] => iprop(emp)
  | u :: l => iprop(Perm (F := F) d k u ∗ perms d k l)

omit [FloatOps F] in
instance Perm_storable (d : Dev nD) (k : Fin 4) (u : ℕ) : BI.Storable (upEmb : UEmb _ 𝕄) (Perm (F := F) d k u) := by unfold Perm; infer_instance
omit [FloatOps F] in
instance perms_storable (d : Dev nD) (k : Fin 4) (l : List ℕ) : BI.Storable (upEmb : UEmb _ 𝕄) (perms (F := F) d k l) := by
  induction l with
  | nil => unfold perms; infer_instance
  | cons u l ih => unfold perms; infer_instance

/-- The rights that hop `t` of stream `k` carries, for the stream the other way round. -/
def carry (k : Fin 4) (t : ℕ) : List ℕ := match t with
  | 2 => [5] | 3 => [6] | 4 => [7]
  | 6 => if k.val % 2 = 1 then [8] else []
  | 7 => if k.val % 2 = 1 then [9, 10] else [8, 9, 10]
  | 8 => [11] | _ => []

def early : List ℕ := [0, 1, 2, 3, 4]

variable (m : (ℓ : Loc nD τ sig) → Buf (Elt F) ℓ)

/-- Hops `4, 5` of a pass forward the slot just received; the others go out of the send buffer. -/
def sndPay (c : Dev nD) (k : Fin 4) (t : ℕ) : sProp 𝕄 :=
  if 4 ≤ t % 6 then owns c (vS k (sl5 (t - 1))) fullShare.right (sent m k t c) else free (F := F) c (sS k (par t))
def rcvPay (c : Dev nD) (k : Fin 4) (t : ℕ) : sProp 𝕄 :=
  iprop(owns c (vS k (sl5 t)) fullShare (rcvd m k t c) ∗ perms (F := F) (srcD c k) (pair k) (carry k t))
def barPay (c : Dev nD) (right : Bool) : sProp 𝕄 :=
  if right then iprop(perms (F := F) (dstD c 0) 0 early ∗ perms (F := F) (dstD c 2) 2 early)
  else iprop(perms (F := F) (dstD c 1) 1 early ∗ perms (F := F) (dstD c 3) 3 early)

instance sndPay_storable (c : Dev nD) (k : Fin 4) (t : ℕ) : BI.Storable (upEmb : UEmb _ 𝕄) (sndPay m c k t) := by
  unfold sndPay; split <;> infer_instance
instance rcvPay_storable (c : Dev nD) (k : Fin 4) (t : ℕ) : BI.Storable (upEmb : UEmb _ 𝕄) (rcvPay m c k t) := by
  unfold rcvPay; infer_instance
omit [FloatOps F] in
instance barPay_storable (c : Dev nD) (b : Bool) : BI.Storable (upEmb : UEmb _ 𝕄) (barPay (F := F) c b) := by
  unfold barPay; split <;> infer_instance

/-! ## The schedule -/

def dutiesOf : CK → ℕ → Finset Bool
  | .bar, r => if r = 0 then Finset.univ else ∅
  | .snd _ _, r => if r < 6 then {false} else ∅
  | .rcv _ j, r => if 5 * r + j.val < 12 then {false} else ∅
  | .other, _ => ∅
def amountOf : CK → ℕ | .bar => 1 | _ => NB
def payOf (c : Dev nD) : CK → ℕ → Bool → sProp 𝕄
  | .bar, _, d => barPay c d
  | .snd k b, r, _ => sndPay m c k (2 * r + b.val)
  | .rcv k j, r, _ => rcvPay m c k (5 * r + j.val)
  | .other, _, _ => iprop(emp)

def Rd : Rounds.Schedule (GSem nD τ sig) Bool 𝕄 where
  duties g r := if g.1.2 = .tc then dutiesOf (ck g.2) r else ∅
  unitless _ := False
  amount g _ _ := amountOf (ck g.2)
  payload g r d := payOf m g.1.1 (ck g.2) r d
  amount_pos g _ _ _ := by
    cases ck g.2
    · exact Nat.one_pos
    all_goals exact NB_pos

instance Rd_storable (g : GSem nD τ sig) (r : ℕ) (d : Bool) : BI.Storable (upEmb : UEmb _ 𝕄) ((Rd m).payload g r d) := by
  show BI.Storable upEmb (payOf m g.1.1 (ck g.2) r d)
  cases ck g.2 <;> (unfold payOf; infer_instance)

section Sched
variable (c : Dev nD) (k : Fin 4)

theorem duties_tc (sm : SemLoc sig) (r : ℕ) : (Rd m).duties ((c : Thread nD τ), sm) r = dutiesOf (ck sm) r := by
  dsimp only [Rd]; exact if_pos rfl
theorem duties_b : (Rd m).duties (bcell c) 0 = Finset.univ := by
  rw [duties_tc, ck_bar]; rfl
theorem duties_s {t : ℕ} (ht : t < 12) : (Rd m).duties (scell c k t) (t / 2) = {false} := by
  rw [duties_tc, ck_snd]; exact if_pos (by omega)
theorem duties_r {t : ℕ} (ht : t < 12) : (Rd m).duties (rcell c k t) (t / 5) = {false} := by
  rw [duties_tc, ck_rcv]; exact if_pos (by show 5 * (t / 5) + t % 5 < 12; omega)
theorem later_b : ∀ r, 1 ≤ r → (Rd m).duties (bcell c) r = ∅ := fun r hr => by
  rw [duties_tc, ck_bar]; exact if_neg (by omega)
theorem later_s {t : ℕ} (ht : 12 ≤ t) : ∀ r, t / 2 ≤ r → (Rd m).duties (scell c k t) r = ∅ := fun r hr => by
  rw [duties_tc, ck_snd]; exact if_neg (by omega)
theorem later_r {t : ℕ} (ht : 12 ≤ t) : ∀ r, t / 5 ≤ r → (Rd m).duties (rcell c k t) r = ∅ := fun r hr => by
  rw [duties_tc, ck_rcv]; exact if_neg (by show ¬ 5 * r + t % 5 < 12; omega)

theorem amount_b (r : ℕ) (d : Bool) : (Rd m).amount (bcell c) r d = 1 := by show amountOf (ck (.reg barQ)) = _; rw [ck_bar]; rfl
theorem amount_s (t r : ℕ) (d : Bool) : (Rd m).amount (scell c k t) r d = NB := by
  show amountOf (ck (.dma (sdQ k (par t)))) = _; rw [ck_snd]; rfl
theorem amount_r (t r : ℕ) (d : Bool) : (Rd m).amount (rcell c k t) r d = NB := by
  show amountOf (ck (.dma (rvQ k (sl5 t)))) = _; rw [ck_rcv]; rfl

theorem expect_b : (Rd m).expect (bcell c) 0 = 2 := by
  unfold Schedule.expect Schedule.amountOf
  rw [duties_b, Finset.sum_congr rfl fun d _ => amount_b m c 0 d, Finset.sum_const, Finset.card_univ, Fintype.card_bool, smul_eq_mul]
theorem expect_s {t : ℕ} (ht : t < 12) : (Rd m).expect (scell c k t) (t / 2) = NB := by
  unfold Schedule.expect Schedule.amountOf; rw [duties_s m c k ht, Finset.sum_singleton, amount_s]
theorem expect_r {t : ℕ} (ht : t < 12) : (Rd m).expect (rcell c k t) (t / 5) = NB := by
  unfold Schedule.expect Schedule.amountOf; rw [duties_r m c k ht, Finset.sum_singleton, amount_r]

theorem pay_b (d : Bool) : (Rd m).payload (bcell c) 0 d = barPay c d := by
  show payOf m c (ck (.reg barQ)) 0 d = _; rw [ck_bar]; rfl
theorem pay_s (t : ℕ) (d : Bool) : (Rd m).payload (scell c k t) (t / 2) d = sndPay m c k t := by
  show payOf m c (ck (.dma (sdQ k (par t)))) (t / 2) d = _; rw [ck_snd]
  show sndPay m c k (2 * (t / 2) + t % 2) = _; rw [Nat.div_add_mod]
theorem pay_r (t : ℕ) (d : Bool) : (Rd m).payload (rcell c k t) (t / 5) d = rcvPay m c k t := by
  show payOf m c (ck (.dma (rvQ k (sl5 t)))) (t / 5) d = _; rw [ck_rcv]
  show rcvPay m c k (5 * (t / 5) + t % 5) = _; rw [Nat.div_add_mod]

theorem rest_b : bigSep ((Rd m).duties (bcell c) 0 \ ∅) (fun d => (Rd m).payload (bcell c) 0 d) = iprop(barPay (F := F) c false ∗ barPay (F := F) c true) := by
  rw [Finset.sdiff_empty, duties_b, bigSep_univ_eq_bigSepL [false, true] (by decide) (by decide), bigSepL_cons_cons, bigSepL_singleton, pay_b, pay_b]; rfl
theorem rest_s {t : ℕ} (ht : t < 12) :
    bigSep ((Rd m).duties (scell c k t) (t / 2) \ ∅) (fun d => (Rd m).payload (scell c k t) (t / 2) d) = sndPay m c k t := by
  rw [Finset.sdiff_empty, duties_s m c k ht, bigSep_singleton, pay_s]
theorem rest_r {t : ℕ} (ht : t < 12) :
    bigSep ((Rd m).duties (rcell c k t) (t / 5) \ ∅) (fun d => (Rd m).payload (rcell c k t) (t / 5) d) = rcvPay m c k t := by
  rw [Finset.sdiff_empty, duties_r m c k ht, bigSep_singleton, pay_r]

end Sched

/-! ## Levels -/

def L (g : GSem nD τ sig) : Finset ℕ := if g.1.2 = .tc then Finset.range 12 else ∅
/-- A receive cell's hop `t` stands at `t + 2`, the barrier at 1, everything else at 0. -/
def lvOf : CK → ℕ → ℕ | .bar, _ => 1 | .rcv _ _, t => t + 2 | _, _ => 0
def lv (g : GSem nD τ sig) (t : ℕ) : ℕ := lvOf (ck g.2) t

theorem L_of_ne (g : GSem nD τ sig) (h : g.1.2 ≠ .tc) : L g = ∅ := if_neg h
theorem mem_L (c : Dev nD) (sm : SemLoc sig) {t : ℕ} (ht : t < 12) : t ∈ L ((c : Thread nD τ), sm) := by
  unfold L; rw [if_pos rfl]; exact Finset.mem_range.mpr ht
theorem lv_rcell (c : Dev nD) (k : Fin 4) (t u : ℕ) : lv (rcell c k t) u = u + 2 := by unfold lv; rw [ck_rcv]; rfl

/-! ## What a device owes -/

/-- The hops in the program's order. -/
def hops : List (Fin 4 × ℕ) :=
  [(0,0),(1,0),(2,0),(3,0), (0,1),(1,1),(2,1),(3,1), (0,2),(1,2),(2,2),(3,2), (0,3),(1,3),(2,3),(3,3), (0,4),(1,4),(2,4),(3,4),
   (0,5),(0,6),(1,5),(1,6),(2,5),(2,6),(3,5),(3,6), (0,7),(1,7),(2,7),(3,7), (0,8),(1,8),(2,8),(3,8), (0,9),(1,9),(2,9),(3,9),
   (0,10),(1,10),(2,10),(3,10), (0,11),(1,11),(2,11),(3,11)]

/-- The receive credits a device still owes: those of the hops in `l`. -/
def owedL (c : Dev nD) : List (Fin 4 × ℕ) → CellTallies nD τ sig ℕ
  | [] => 0
  | x :: l => owedL c l + tallyAt (rcell (dstD c x.1) x.1 x.2) x.2 NB

theorem owedL_pos (c : Dev nD) (l : List (Fin 4 × ℕ)) {g : GSem nD τ sig} {u : ℕ} (h : 0 < owedL c l g u) :
    ∃ x ∈ l, g = rcell (dstD c x.1) x.1 x.2 ∧ u = x.2 := by
  induction l with
  | nil => exact absurd h (Nat.lt_irrefl 0)
  | cons x l ih =>
    unfold owedL at h
    rw [Pi.add_apply, Finsupp.add_apply, tallyAt_apply] at h
    by_cases hx : g = rcell (dstD c x.1) x.1 x.2 ∧ u = x.2
    · exact ⟨x, List.mem_cons_self, hx⟩
    · rw [if_neg hx, Nat.add_zero] at h
      obtain ⟨y, hy, hh⟩ := ih h
      exact ⟨y, List.mem_cons_of_mem _ hy, hh⟩

omit [FloatOps F] in
/-- A wait at level `b` is in order when every hop owed has its level above. -/
theorem mayWait_of (c : Dev nD) (sm : SemLoc sig) (t b : ℕ) (ht : t < 12) (hb : lv ((c : Thread nD τ), sm) t ≤ b) (l : List (Fin 4 × ℕ))
    (hl : ∀ x ∈ l, x.2 < 12 ∧ b < x.2 + 2) : (levAts L lv : sProp 𝕄) ⊢ MayWait (c : Thread nD τ) sm t (owedL c l) :=
  MayOwe.of_cut (L := L) (lev := lv) b (fun p hp => by rw [Finset.mem_singleton.mp hp]; exact mem_L c sm ht)
    (fun g u hg => by
      obtain ⟨x, hx, rfl, rfl⟩ := owedL_pos c l hg
      exact mem_L _ _ (hl x hx).1)
    (fun p hp => by rw [Finset.mem_singleton.mp hp]; exact hb)
    (fun g u hg => by
      obtain ⟨x, hx, rfl, rfl⟩ := owedL_pos c l hg
      rw [lv_rcell]; exact (hl x hx).2)

theorem hops_lt : ∀ x ∈ hops, x.2 < 12 := by decide

omit [FloatOps F] in
/-- The waits for local transfers and for send cells. -/
theorem mayWait_low (c : Dev nD) (sm : SemLoc sig) (h : lvOf (ck sm) 0 = 0) (i : ℕ) :
    (levAts L lv : sProp 𝕄) ⊢ MayWait (c : Thread nD τ) sm 0 (owedL c (hops.drop i)) :=
  mayWait_of c sm 0 0 (by decide) (le_of_eq h) _ fun x hx => ⟨hops_lt x (List.mem_of_mem_drop hx), by omega⟩
omit [FloatOps F] in
theorem mayWait_b (c : Dev nD) : (levAts L lv : sProp 𝕄) ⊢ MayWait (c : Thread nD τ) (.reg barQ) 0 (owedL c hops) :=
  mayWait_of c _ 0 1 (by decide) (by unfold lv; rw [ck_bar]; exact le_refl 1) _ fun x hx => ⟨hops_lt x hx, by omega⟩
omit [FloatOps F] in
/-- The wait for hop `t`: only later hops are owed. -/
theorem mayWait_r (c : Dev nD) (k : Fin 4) (t i : ℕ) (ht : t < 12) (hi : ∀ x ∈ hops.drop i, t < x.2) :
    (levAts L lv : sProp 𝕄) ⊢ MayWait (c : Thread nD τ) (.dma (rvQ k (sl5 t))) t (owedL c (hops.drop i)) :=
  mayWait_of c _ t (t + 2) ht (le_of_eq (lv_rcell c k t t)) _
    fun x hx => ⟨hops_lt x (List.mem_of_mem_drop hx), by have := hi x hx; omega⟩

/-- Device `c` owes the hops from the `i`-th on. -/
def Ow (c : Dev nD) (i : ℕ) : sProp 𝕄 := iprop(∃ W, owes (c : Thread nD τ) (owedL c (hops.drop i)) W)

/-! ## The invariants -/

abbrev CI : Type := Option (Fin 4 × (Fin 2 ⊕ Fin 5))
def csem : CI → SemLoc sig
  | none => .reg barQ | some (k, .inl b) => .dma (sdQ k b) | some (k, .inr j) => .dma (rvQ k j)
abbrev kcell (x : Dev nD × CI) : GSem nD τ sig := ((x.1 : Thread nD τ), csem x.2)

def recs (K : Dev nD × CI → ℕ) : sProp 𝕄 := bigSep Finset.univ fun x => cellInv ER (Rd m) (K x) (kcell x)
instance recs_persistent (K : Dev nD × CI → ℕ) : BI.Persistent (recs m K) := by unfold recs; infer_instance

/-- What every step may use: all the cells' invariants, and the levels. -/
def Env (K : Dev nD × CI → ℕ) : sProp 𝕄 := iprop(recs m K ∗ levAts L lv)
instance Env_persistent (K : Dev nD × CI → ℕ) : BI.Persistent (Env m K) := by unfold Env; infer_instance

theorem recs_inv (K : Dev nD × CI → ℕ) (x : Dev nD × CI) : recs m K ⊢ cellInv ER (Rd m) (K x) (kcell x) := by
  unfold recs; exact bigSep_elim (Finset.mem_univ x)
theorem Env_inv (K : Dev nD × CI → ℕ) (x : Dev nD × CI) : Env m K ⊢ cellInv ER (Rd m) (K x) (kcell x) := by
  unfold Env
  iintro ⟨H, -⟩
  iapply (recs_inv m K x); iexact H
theorem Env_lev (K : Dev nD × CI → ℕ) : Env m K ⊢ levAts L lv := by unfold Env; iintro ⟨-, H⟩; iexact H

end Cert.KernelIdeal.AR

end
-- ==== Proof.Hop.lean ====
/-
A hop started and a hop waited for, for any stream and any hop: the books a stream keeps, and what each operation does to
them.
-/
module

public import proofs.«01_k».proof.Proof.Proto
public import Idealize.SL.BI.BigOpNat

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ)

/-! ## A stream's books -/

/-- Stream `k` has waited for the hops before `w`: where it stands on its two send cells. -/
def SW (c : Dev nD) (k : Fin 4) (w : ℕ) : sProp 𝕄 :=
  iprop(atPos ER (scell c k w) (w / 2) ∅ 0 ∗ atPos ER (scell c k (w + 1)) ((w + 1) / 2) ∅ 0
    ∗ reached ER (scell c k w) (w / 2) ∗ reached ER (scell c k (w + 1)) ((w + 1) / 2))
/-- And on its five receive cells. -/
def RW (c : Dev nD) (k : Fin 4) (w : ℕ) : sProp 𝕄 :=
  iprop(atPos ER (rcell c k w) (w / 5) ∅ 0 ∗ atPos ER (rcell c k (w + 1)) ((w + 1) / 5) ∅ 0 ∗ atPos ER (rcell c k (w + 2)) ((w + 2) / 5) ∅ 0
    ∗ atPos ER (rcell c k (w + 3)) ((w + 3) / 5) ∅ 0 ∗ atPos ER (rcell c k (w + 4)) ((w + 4) / 5) ∅ 0)
/-- The duties of the hops from `n` on. -/
def TK (c : Dev nD) (k : Fin 4) (n : ℕ) : sProp 𝕄 :=
  bigSep (Finset.Ico n 12) fun t => iprop(dutyTok ER (scell c k t) (t / 2) false ∗ dutyTok ER (rcell (dstD c k) k t) (t / 5) false)
/-- The credits of the hops to be received from `w` on. -/
def CR (c : Dev nD) (k : Fin 4) (w : ℕ) : sProp 𝕄 :=
  bigSep (Finset.Ico w 12) fun t => cred (tallyAt (rcell c k t) t NB)
/-- Stream `k` has waited for the hops before `w` and started those before `n`. -/
def Led (c : Dev nD) (k : Fin 4) (w n : ℕ) : sProp 𝕄 :=
  iprop(SW (F := F) c k w ∗ RW (F := F) c k w ∗ TK (F := F) c k n ∗ CR (F := F) c k w)

/-- The credit of a hop's own send cell, held from its start to its wait. -/
abbrev scred (c : Dev nD) (k : Fin 4) (t : ℕ) : sProp 𝕄 := cred (tallyAt (scell c k t) 0 NB)

theorem sl5_add (t : ℕ) : sl5 (t + 5) = sl5 t := Fin.ext (Nat.add_mod_right t 5)
theorem par_add (t : ℕ) : par (t + 2) = par t := Fin.ext (Nat.add_mod_right t 2)

omit [FloatOps F] in
theorem TK_take (c : Dev nD) (k : Fin 4) {n : ℕ} (h : n < 12) :
    TK (F := F) c k n ⊢ iprop((dutyTok ER (scell c k n) (n / 2) false ∗ dutyTok ER (rcell (dstD c k) k n) (n / 5) false) ∗ TK (F := F) c k (n + 1)) := by
  unfold TK; rw [bigSep_Ico_succ_bot h]
omit [FloatOps F] in
theorem CR_take (c : Dev nD) (k : Fin 4) {w : ℕ} (h : w < 12) :
    CR (F := F) c k w ⊢ iprop(cred (tallyAt (rcell c k w) w NB) ∗ CR (F := F) c k (w + 1)) := by
  unfold CR; rw [bigSep_Ico_succ_bot h]

variable (K : Dev nD × CI → ℕ) (c : Dev nD) (k : Fin 4)

theorem Env_s (t : ℕ) : Env m K ⊢ cellInv ER (Rd m) (K (c, some (k, .inl (par t)))) (scell c k t) :=
  Env_inv m K (c, some (k, .inl (par t)))
theorem Env_r (t : ℕ) : Env m K ⊢ cellInv ER (Rd m) (K (c, some (k, .inr (sl5 t)))) (rcell c k t) :=
  Env_inv m K (c, some (k, .inr (sl5 t)))

theorem Led_reached (w n t : ℕ) (h : t = w ∨ t = w + 1) : Led (F := F) c k w n ⊢ reached ER (scell c k t) (t / 2) := by
  unfold Led SW
  rcases h with rfl | rfl
  · iintro ⟨⟨-, -, H, -⟩, -⟩; iexact H
  · iintro ⟨⟨-, -, -, H⟩, -⟩; iexact H

variable {Q : PUnit → sProp (MM F)}

/-- A hop started out of `src`: the right to write it is used up, the rights it carries are given away. -/
theorem wp_hop {src : Memref sig .tc .vmem S256x2048 .bf16} {hs : src.view.WordExact} {sh : PosShare TreeShare} {w t i : ℕ} (ht : t < 12)
    (hw : t = w ∨ t = w + 1) (hi : hops.drop i = (k, t) :: hops.drop (i + 1))
    (hpay : owns c src sh (sent m k t c) ⊢ sndPay m c k t) {Kt : PR F} :
    iprop(Env m K ∗ owns c src sh (sent m k t c) ∗ Perm (F := F) (dstD c k) k t ∗ perms (F := F) c (pair k) (carry k t)
        ∗ Led (F := F) c k w t ∗ Ow (F := F) c i)
      ⊢ iprop((iprop(Led (F := F) c k w (t + 1) ∗ scred c k t ∗ Ow (F := F) c (i + 1))
            -∗ wp frame (wpE (defs₀ (F := F)) Variants.none (c : Thread nD τ) none) Set.univ Kt Q)
          -∗ wp frame (wpE (defs₀ (F := F)) Variants.none (c : Thread nD τ) none) Set.univ (startHop c k (par t) (sl5 t) src hs Kt) Q) := by
  unfold startHop
  have hpay' : ∀ f, src.view.read (Elt F) f = sent m k t c → ((src.view.loc (c : Thread nD τ) ↦[src.view.set]{sh} f) ⊢ sndPay m c k t) := by
    intro f hf
    refine BIBase.Entails.trans ?_ hpay
    unfold owns
    iintro H; iexists f
    isplitr; · ipureintro; exact hf
    iexact H
  iintro ⟨#HE, Hs, HP, Hc, HL, HO⟩ Hk
  ihave #Hr := (Led_reached c k w t t hw) $$ HL
  unfold Led
  icases HL with ⟨HS, HR, HT, HC⟩
  ihave HT' := (TK_take c k ht) $$ HT
  icases HT' with ⟨⟨HtS, HtV⟩, HT⟩
  unfold owns Perm free owns Ow
  icases Hs with ⟨%f, %hf, Hs⟩
  icases HP with ⟨⟨%X, %g, -, Hd⟩, #HrV⟩
  icases HO with ⟨%W, HO⟩
  iapply (Rounds.wp_send_pointsTo_with Variants.none ER (Rd m) (c : Thread nD τ) none (c' := (dstD c k : Thread nD τ)) (dst := vS k (sl5 t))
    (κ₁ := K (c, some (k, .inl (par t)))) (κ₂ := K (dstD c k, some (k, .inr (sl5 t)))) (r₁ := t / 2) (r₂ := t / 5) (d₁ := false) (d₂ := false)
    (fs := f) (fd := g) (F := perms (F := F) c (pair k) (carry k t))
    (by rw [duties_s m c k ht]; exact Finset.mem_singleton_self _) (by rw [duties_r m (dstD c k) k ht]; exact Finset.mem_singleton_self _)
    t 0 NB (show (vS k (sl5 t)).view.amount (.dma (rvQ k (sl5 t))) = NB from nb_v k (sl5 t)) (amount_s m c k t _ false) (amount_r m (dstD c k) k t _ false) (owedL c (hops.drop (i + 1)))
    (O₀ := owedL c (hops.drop i)) (by rw [hi]; rfl) (W := W) (by rw [pay_s]; exact hpay' f hf)
    (by
      rw [pay_r]; unfold rcvPay owns rcvd
      rw [srcD_dstD]
      iintro ⟨H, HC⟩
      isplitl [H]
      · iexists _
        isplitr; swap; · iexact H
        ipureintro; rw [View.read_write_univ]; exact hf
      iexact HC)) $$ [Hs Hd Hc HO HtS HtV]
  · isplitr; · iapply (Env_s m K c k t); iexact HE
    isplitr; · iapply (Env_r m K (dstD c k) k t); iexact HE
    isplitl [Hs]; · iexact Hs
    isplitl [Hd Hc]
    · isplitl [Hd]; · iexact Hd
      iexact Hc
    isplitl [HO]; · iexact HO
    isplitl [HtS]; · iexact HtS
    isplitr; · iexact Hr
    isplitl [HtV]; · iexact HtV
    iexact HrV
  iintro ⟨Hcr, HO⟩
  iapply Hk
  isplitl [HS HR HT HC]
  · isplitl [HS]; · iexact HS
    isplitl [HR]; · iexact HR
    isplitl [HT]; · iexact HT
    iexact HC
  isplitl [Hcr]; · iexact Hcr
  iexists W; iexact HO

/-- A hop waited for, on its send cell and on its receive cell. -/
theorem wp_waitHop {src : Memref sig .tc .vmem S256x2048 .bf16} {hs : src.view.WordExact} (hN : src.view.dmaCredit = NB) {w n i : ℕ} (ht : w < 12)
    (hi : ∀ x ∈ hops.drop i, w < x.2) {Kt : PR F} :
    iprop(Env m K ∗ scred (F := F) c k w ∗ Led (F := F) c k w n ∗ Ow (F := F) c i)
      ⊢ iprop((iprop(Led (F := F) c k (w + 1) n ∗ sndPay m c k w ∗ rcvPay m c k w ∗ reached ER (rcell c k (w + 5)) ((w + 5) / 5) ∗ Ow (F := F) c i)
            -∗ wp frame (wpE (defs₀ (F := F)) Variants.none (c : Thread nD τ) none) Set.univ Kt Q)
          -∗ wp frame (wpE (defs₀ (F := F)) Variants.none (c : Thread nD τ) none) Set.univ (waitHop k (par w) (sl5 w) src hs Kt) Q) := by
  unfold waitHop Led SW RW Ow
  iintro ⟨#HE, Hcr, ⟨⟨Ha, Hb, -, #Hr1⟩, ⟨H0, H1, H2, H3, H4⟩, HT, HC⟩, ⟨%W, HO⟩⟩ Hk
  ihave HC' := (CR_take c k ht) $$ HC
  icases HC' with ⟨Hcv, HC⟩
  iapply (Rounds.wp_wait_rest_token Variants.none ER (Rd m) (c : Thread nD τ) none (κ := K (c, some (k, .inl (par w))))
      (wpE_waitDma2_eq Variants.none (c : Thread nD τ) none Set.univ) (Set.mem_univ _) 0 (O := owedL c (hops.drop i)) (W := W) (R := w / 2) (m := 0) (T := ∅)
      (by rw [Nat.zero_add]; exact hN.trans (expect_s m c k ht).symm)) $$ [Hcr HO Ha]
  · isplitr; · iapply (Env_s m K c k w); iexact HE
    isplitl [Hcr]; · rw [hN]; iexact Hcr
    isplitl [HO]; · iexact HO
    isplitr
    · iapply (mayWait_low c (.dma (sdQ k (par w))) (by rw [ck_snd]; rfl) i); iapply (Env_lev m K); iexact HE
    iexact Ha
  iintro ⟨HO, Ha, #Hr2, Hp⟩
  ihave Hps := (Entails.of_eq (rest_s m c k ht)) $$ Hp
  iapply (Rounds.wp_wait_rest_token Variants.none ER (Rd m) (c : Thread nD τ) none (κ := K (c, some (k, .inr (sl5 w))))
      (wpE_waitDma2_eq Variants.none (c : Thread nD τ) none Set.univ) (Set.mem_univ _) w (O := owedL c (hops.drop i)) (R := w / 5) (m := 0) (T := ∅)
      (by rw [Nat.zero_add]; exact (nb_v k (sl5 w)).trans (expect_r m c k ht).symm)) $$ [Hcv HO H0]
  · isplitr; · iapply (Env_r m K c k w); iexact HE
    isplitl [Hcv]; · iexact Hcv
    isplitl [HO]; · iexact HO
    isplitr
    · iapply (mayWait_r c k w i ht hi); iapply (Env_lev m K); iexact HE
    iexact H0
  iintro ⟨HO, H0, #Hr3, Hp⟩
  ihave Hpr := (Entails.of_eq (rest_r m c k ht)) $$ Hp
  iapply Hk
  have e2 : scell c k (w + 1 + 1) = scell c k w := by show ((c : Thread nD τ), SemLoc.dma (sdQ k (par (w + 2)))) = _; rw [par_add]
  have e2' : (w + 1 + 1) / 2 = w / 2 + 1 := by omega
  have e5 : rcell c k (w + 5) = rcell c k w := by show ((c : Thread nD τ), SemLoc.dma (rvQ k (sl5 (w + 5)))) = _; rw [sl5_add]
  have e5' : (w + 5) / 5 = w / 5 + 1 := by omega
  rw [show w + 1 + 4 = w + 5 from rfl, show w + 1 + 3 = w + 4 from rfl, show w + 1 + 2 = w + 3 from rfl, e2, e2', e5, e5']
  isplitl [Ha Hb H0 H1 H2 H3 H4 HT HC]
  · isplitl [Ha Hb]
    · isplitl [Hb]; · iexact Hb
      isplitl [Ha]; · iexact Ha
      isplitr; · iexact Hr1
      iexact Hr2
    isplitl [H0 H1 H2 H3 H4]
    · isplitl [H1]; · iexact H1
      isplitl [H2]; · iexact H2
      isplitl [H3]; · iexact H3
      isplitl [H4]; · iexact H4
      iexact H0
    isplitl [HT]; · iexact HT
    iexact HC
  isplitl [Hps]; · iexact Hps
  isplitl [Hpr]; · iexact Hpr
  isplitr; · iexact Hr3
  iexists _; iexact HO

end Cert.KernelIdeal.AR

end
-- ==== Proof.Local.lean ====
/-
The local transfers of one stream — loads of its tiles, loads of the residual, stores of the result — with the tiles'
contents as values, and the vector loads and stores of the slots.
-/
module

public import proofs.«01_k».proof.Proof.Hop

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ) (K : Dev nD × CI → ℕ) (c : Dev nD) (k : Fin 4)

/-- A program's weakest precondition on device `c`. -/
abbrev WP (c : Dev nD) (P : PR F) (Q : PUnit → sProp 𝕄) : sProp 𝕄 :=
  wp frame (wpE (defs₀ (F := F)) Variants.none (c : Thread nD τ) none) Set.univ P Q

variable {Q : PUnit → sProp (MM F)} {Kt : PR F}

omit [FloatOps F] in
theorem pull {I : Type} [DecidableEq I] {s : Finset I} {i : I} (h : i ∈ s) (Φ : I → sProp 𝕄) :
    bigSep s Φ = iprop(Φ i ∗ bigSep (s.erase i) Φ) := bigSep_erase h
omit [FloatOps F] in
theorem free_elim {sp : Space} {s : Shape} {e : EltTy} (c : Dev nD) (r : Memref sig .tc sp s e) :
    free (F := F) c r ⊢ iprop(∃ X, owns (F := F) c r fullShare X) := by unfold free; exact BI.Entails.refl _

/-! ## The loads -/

/-- A pass and a tile of it. -/
abbrev PT : Type := Fin 2 × Fin 4

/-- The tile `x` of the array summed. -/
abbrev xt (x : PT) : sProp 𝕄 := owns c (xT (xO c k x.1 x.2)) fullShare (xv m c (xO c k x.1 x.2))
/-- All the tiles, and no load in flight: the load slot is free. -/
def LdI : sProp 𝕄 := iprop(idle (F := F) c (ldQ k) ∗ free (F := F) c (lS k) ∗ bigSep Finset.univ (xt m c k))
/-- The load of `x` in flight. -/
def Ld (x : PT) : sProp 𝕄 :=
  iprop(flying c (ldQ k) NF (xT (xO c k x.1 x.2)) (lS k) fullShare (xv m c (xO c k x.1 x.2)) ∗ bigSep (Finset.univ.erase x) (xt m c k))
/-- The load of `x` done: the slot holds the tile. -/
def LdR (x : PT) : sProp 𝕄 :=
  iprop(idle (F := F) c (ldQ k) ∗ owns c (lS k) fullShare (xv m c (xO c k x.1 x.2)) ∗ bigSep Finset.univ (xt m c k))

theorem LdR_LdI (x : PT) : LdR m c k x ⊢ LdI m c k := by
  unfold LdR LdI
  iintro ⟨H1, H2, H3⟩
  ihave H2 := (owns_free c (lS k) _) $$ H2
  iframe

theorem wp_startLoad {o : Off} (x : PT) (ho : o = xO c k x.1 x.2) :
    LdI m c k ⊢ iprop((Ld m c k x -∗ WP c Kt Q) -∗ WP c (startLoad k o Kt) Q) := by
  subst ho
  unfold startLoad LdI Ld
  rw [pull (Finset.mem_univ x)]
  iintro ⟨Hi, Hf, Hx, Hr⟩ Hk
  ihave Hx := (Entails.of_eq (show xt m c k x = owns c (xT (xO c k x.1 x.2)) fullShare (xv m c (xO c k x.1 x.2)) from rfl)) $$ Hx
  iapply (wp_start Variants.none c (xv m c (xO c k x.1 x.2)) NF (show (lS k).view.amount (.dma (ldQ k)) = NF from nf_l k) NF_pos) $$ [Hi Hf Hx]
  · isplitl [Hx]; · iexact Hx
    isplitl [Hf]; · iexact Hf
    iexact Hi
  iintro Hfl
  iapply Hk
  isplitl [Hfl]; · iexact Hfl
  iexact Hr

theorem wp_waitLoad {o : Off} (x : PT) (ho : o = xO c k x.1 x.2) {i : ℕ} :
    iprop(Env m K ∗ Ld m c k x ∗ Ow (F := F) c i) ⊢ iprop((iprop(LdR m c k x ∗ Ow (F := F) c i) -∗ WP c Kt Q) -∗ WP c (waitLoad k o Kt) Q) := by
  subst ho
  unfold waitLoad Ld Ow LdR
  rw [pull (Finset.mem_univ x)]
  iintro ⟨#HE, ⟨Hf, Hr⟩, HO⟩ Hk
  iapply (wp_finish Variants.none c (xv m c (xO c k x.1 x.2)) NF (nf_l k)) $$ [Hf HO]
  · isplitl [Hf]; · iexact Hf
    isplitl [HO]; · iexact HO
    iapply (mayWait_low c (.dma (ldQ k)) (by rw [ck_ld]; rfl) i); iapply (Env_lev m K); iexact HE
  iintro ⟨Hd, Hs, Hi, HO⟩
  iapply Hk
  isplitr [HO]; swap; · iexact HO
  isplitl [Hi]; · iexact Hi
  isplitl [Hd]; · iexact Hd
  isplitl [Hs]; · iexact Hs
  iexact Hr

/-! ## The residual -/

abbrev rt (p : Fin 2) : sProp 𝕄 := owns c (rT' (finO c k p)) fullShare (rv m c (finO c k p))
def RsI : sProp 𝕄 := iprop(idle (F := F) c (rsQ k) ∗ bigSep Finset.univ (rt m c k))
def Rs (p : Fin 2) : sProp 𝕄 :=
  iprop(flying c (rsQ k) NF (rT' (finO c k p)) (tS k 1) fullShare (rv m c (finO c k p)) ∗ bigSep (Finset.univ.erase p) (rt m c k))

theorem wp_startRes (p : Fin 2) :
    iprop(RsI m c k ∗ free (F := F) c (tS k 1)) ⊢ iprop((Rs m c k p -∗ WP c Kt Q) -∗ WP c (startRes k (finO c k p) Kt) Q) := by
  unfold startRes RsI Rs
  rw [pull (Finset.mem_univ p)]
  iintro ⟨⟨Hi, Hx, Hr⟩, Hf⟩ Hk
  iapply (wp_start Variants.none c (rv m c (finO c k p)) NF (show (tS k 1).view.amount (.dma (rsQ k)) = NF from nf_t k 1) NF_pos) $$ [Hi Hf Hx]
  · isplitl [Hx]; · iexact Hx
    isplitl [Hf]; · iexact Hf
    iexact Hi
  iintro Hfl
  iapply Hk
  isplitl [Hfl]; · iexact Hfl
  iexact Hr

theorem wp_waitRes (p : Fin 2) {i : ℕ} :
    iprop(Env m K ∗ Rs m c k p ∗ Ow (F := F) c i)
      ⊢ iprop((iprop(RsI m c k ∗ owns c (tS k 1) fullShare (rv m c (finO c k p)) ∗ Ow (F := F) c i) -∗ WP c Kt Q) -∗ WP c (waitRes k (finO c k p) Kt) Q) := by
  unfold waitRes RsI Rs Ow
  rw [pull (Finset.mem_univ p)]
  iintro ⟨#HE, ⟨Hf, Hr⟩, HO⟩ Hk
  iapply (wp_finish Variants.none c (rv m c (finO c k p)) NF (nf_t k 1)) $$ [Hf HO]
  · isplitl [Hf]; · iexact Hf
    isplitl [HO]; · iexact HO
    iapply (mayWait_low c (.dma (rsQ k)) (by rw [ck_rs]; rfl) i); iapply (Env_lev m K); iexact HE
  iintro ⟨Hd, Hs, Hi, HO⟩
  iapply Hk
  isplitl [Hi Hs Hr]
  · isplitl [Hi]; · iexact Hi
    isplitl [Hs]; · iexact Hs
    iexact Hr
  isplitl [Hd]; · iexact Hd
  iexact HO

/-! ## The stores -/

/-- The tile `x` of the result: at any contents, and at its value. -/
def OF (x : PT) : sProp 𝕄 := free (F := F) c (oT (oO c k x.1 x.2))
def OD (x : PT) : sProp 𝕄 := owns c (oT (oO c k x.1 x.2)) fullShare (ov m c k x.1 x.2)
/-- Slot `j` idle; the store of `x` out of it in flight. -/
def StI (j : Fin 2) : sProp 𝕄 := iprop(idle (F := F) c (stQ k j) ∗ free (F := F) c (tS k j))
def St (j : Fin 2) (x : PT) : sProp 𝕄 := flying c (stQ k j) NF (tS k j) (oT (oO c k x.1 x.2)) fullShare (ov m c k x.1 x.2)

/-- A tile put into slot `j` and its store started. -/
theorem wp_put (j : Fin 2) (x : PT) {o : Off} (ho : o = oO c k x.1 x.2) {w : V4f F} (hw : dn4 (F := F) w = ov m c k x.1 x.2) :
    iprop(StI (F := F) c k j ∗ OF (F := F) c k x)
      ⊢ iprop((St m c k j x -∗ WP c Kt Q) -∗ WP c (ldT k j fun _ => stT k j w <| startStore k j o Kt) Q) := by
  subst ho
  unfold ldT stT startStore StI OF St
  iintro ⟨⟨Hi, Hf⟩, Ho⟩ Hk
  ihave Hf := (free_elim c (tS k j)) $$ Hf
  icases Hf with ⟨%X, Hf⟩
  iapply (wp_loadSq Variants.none c shapeCasts_S256x2048_S1x1x256x2048 X) $$ Hf
  iintro Hf
  iapply (wp_storeSq Variants.none c shapeCasts_S1x1x256x2048_S256x2048) $$ [Hf]
  · iapply (owns_free c (tS k j) X); iexact Hf
  iintro Hf
  ihave Hf := (Entails.of_eq (congrArg (owns c (tS k j) fullShare) hw)) $$ Hf
  iapply (wp_start Variants.none c (ov m c k x.1 x.2) NF (show (oT (oO c k x.1 x.2)).view.amount (.dma (stQ k j)) = NF from nf_o _) NF_pos) $$ [Hi Hf Ho]
  · isplitl [Hf]; · iexact Hf
    isplitl [Ho]; · iexact Ho
    iexact Hi
  iintro H
  iapply Hk; iexact H

theorem wp_waitStore (j : Fin 2) (x : PT) {o : Off} (ho : o = oO c k x.1 x.2) {i : ℕ} :
    iprop(Env m K ∗ St m c k j x ∗ Ow (F := F) c i)
      ⊢ iprop((iprop(StI (F := F) c k j ∗ OD m c k x ∗ Ow (F := F) c i) -∗ WP c Kt Q) -∗ WP c (waitStore k j o Kt) Q) := by
  subst ho
  unfold waitStore St StI OD Ow
  iintro ⟨#HE, Hf, HO⟩ Hk
  iapply (wp_finish Variants.none c (ov m c k x.1 x.2) NF (nf_o _)) $$ [Hf HO]
  · isplitl [Hf]; · iexact Hf
    isplitl [HO]; · iexact HO
    iapply (mayWait_low c (.dma (stQ k j)) (by rw [ck_st]; rfl) i); iapply (Env_lev m K); iexact HE
  iintro ⟨Hd, Hs, Hi, HO⟩
  iapply Hk
  isplitl [Hi Hs]
  · isplitl [Hi]; · iexact Hi
    iapply (owns_free c (tS k j) _); iexact Hs
  isplitl [Hd]; · iexact Hd
  iexact HO

/-! ## Loads of slots, and the store into a send slot -/

theorem wp_ldL {q : PosShare TreeShare} (X : T32 F) {Kv : V3 F → PR F} :
    owns c (lS k) q X ⊢ iprop((owns c (lS k) q X -∗ WP c (Kv (up3 X)) Q) -∗ WP c (ldL k Kv) Q) := by
  unfold ldL; exact wp_loadSq (s' := S256x2048) (m := lM) (r := rL k) Variants.none c (show S256x2048.ShapeCasts S1x256x2048 by decide) X
theorem wp_ldV (j : Fin 5) {q : PosShare TreeShare} (X : T16 F) {Kv : V4b F → PR F} :
    owns c (vS k j) q X ⊢ iprop((owns c (vS k j) q X -∗ WP c (Kv (up4 X)) Q) -∗ WP c (ldV k j Kv) Q) := by
  unfold ldV; exact wp_loadSq (s' := S256x2048) (m := vM) (r := r5 k j) Variants.none c shapeCasts_S256x2048_S1x1x256x2048 X
theorem wp_ldT (j : Fin 2) {q : PosShare TreeShare} (X : T32 F) {Kv : V4f F → PR F} :
    owns c (tS k j) q X ⊢ iprop((owns c (tS k j) q X -∗ WP c (Kv (up4 X)) Q) -∗ WP c (ldT k j Kv) Q) := by
  unfold ldT; exact wp_loadSq (s' := S256x2048) (m := tM) (r := r2 k j) Variants.none c shapeCasts_S256x2048_S1x1x256x2048 X

/-- The load before a store, and the store: the send slot has the tile. -/
theorem wp_fill (j : Fin 2) {w : V4b F} (X : T16 F) (hw : dn4 (F := F) w = X) :
    free (F := F) c (sS k j) ⊢ iprop((owns c (sS k j) fullShare X -∗ WP c Kt Q) -∗ WP c (ldS k j fun _ => stS k j w Kt) Q) := by
  unfold ldS stS
  iintro Hf Hk
  ihave Hf := (free_elim c (sS k j)) $$ Hf
  icases Hf with ⟨%Y, Hf⟩
  iapply (wp_loadSq Variants.none c shapeCasts_S256x2048_S1x1x256x2048 Y) $$ Hf
  iintro Hf
  iapply (wp_storeSq Variants.none c shapeCasts_S1x1x256x2048_S256x2048) $$ [Hf]
  · iapply (owns_free c (sS k j) Y); iexact Hf
  iintro Hf
  ihave Hf := (Entails.of_eq (congrArg (owns c (sS k j) fullShare) hw)) $$ Hf
  iapply Hk; iexact Hf

/-- The scale, whole in its staging buffer. -/
def Gam : sProp 𝕄 := owns c gM fullShare (gv m c)
theorem wp_ldG {Kv : FVec F S2048 .f32 → PR F} :
    Gam m c ⊢ iprop((Gam m c -∗ WP c (Kv (gv m c)) Q) -∗ WP c (ldG Kv) Q) := by
  unfold ldG Gam owns
  iintro ⟨%f, %h, H⟩ Hk
  iapply (wp_load_rect Variants.none (c : Thread nD τ) none Set.univ (m := gM) (r := rG) (f := f) (S := gM.view.set)
    (View.set_slice_subset _ _)) $$ [H]
  · iexact H
  iintro H
  have hX : (gM.access rG).read (Elt F) f = gv m c := by
    rw [← h]; exact Memref.readAt_unit_zero (Elt F) cc0_stg0_0 (funext fun a => by fin_cases a; rfl) _ f
  rw [hX]
  iapply Hk
  iexists f
  isplitr; · ipureintro; exact h
  iexact H

end Cert.KernelIdeal.AR

end
-- ==== Proof.Steps.lean ====
/-
The steps of one stream: what each needs, what it gives back.
-/
module

public import proofs.«01_k».proof.Proof.Local

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ) (K : Dev nD × CI → ℕ) (c : Dev nD) (k : Fin 4)
variable {Q : PUnit → sProp (MM F)} {Kt : PR F}

/-- The right to write hop `u` into the next device; the rights given away with hop `t`, and those that come with it. -/
def PermI (u : ℕ) : sProp 𝕄 := Perm (F := F) (dstD c k) k u
def Give (t : ℕ) : sProp 𝕄 := perms (F := F) c (pair k) (carry k t)
def Got (t : ℕ) : sProp 𝕄 := perms (F := F) (srcD c k) (pair k) (carry k t)

/-- Half of the slot that hop `t` filled: the other half is being sent on. -/
def Half (t : ℕ) : sProp 𝕄 :=
  iprop(owns c (vS k (sl5 t)) fullShare.left (rcvd m k t c) ∗ reached ER (rcell c k (t + 5)) ((t + 5) / 5))

omit [FloatOps F] in
theorem mk_Perm (t : ℕ) (X : T16 F) :
    iprop(owns c (vS k (sl5 t)) fullShare X ∗ reached ER (rcell c k (t + 5)) ((t + 5) / 5)) ⊢ Perm (F := F) c k (t + 5) := by
  unfold Perm
  iintro ⟨H, Hr⟩
  isplitl [H]
  · rw [sl5_add]; iapply (owns_free c (vS k (sl5 t)) X); iexact H
  iexact Hr

theorem Half_Perm (t : ℕ) (Y : T16 F) :
    iprop(Half m c k t ∗ owns c (vS k (sl5 t)) fullShare.right Y) ⊢ Perm (F := F) c k (t + 5) := by
  unfold Half
  iintro ⟨⟨H1, Hr⟩, H2⟩
  iapply (mk_Perm c k t (rcvd m k t c))
  isplitr [Hr]
  · iapply (owns_join c (vS k (sl5 t)) (rcvd m k t c) Y)
    isplitl [H1]; · iexact H1
    iexact H2
  iexact Hr

theorem sndPay_S {t : ℕ} (h : ¬ 4 ≤ t % 6) : sndPay m c k t = free (F := F) c (sS k (par t)) := if_neg h
theorem sndPay_V {t : ℕ} (h : 4 ≤ t % 6) : sndPay m c k t = owns c (vS k (sl5 (t - 1))) fullShare.right (sent m k t c) := if_pos h

theorem rcvPay_eq (t : ℕ) : rcvPay m c k t = iprop(owns c (vS k (sl5 t)) fullShare (rcvd m k t c) ∗ Got (F := F) c k t) := rfl

/-! ## Hops out of the send buffer, and forwarded -/

theorem wp_hopS {w t i : ℕ} (ht : t < 12) (h4 : ¬ 4 ≤ t % 6) (hw : t = w ∨ t = w + 1) (hi : hops.drop i = (k, t) :: hops.drop (i + 1)) :
    iprop(Env m K ∗ owns c (sS k (par t)) fullShare (sent m k t c) ∗ PermI (F := F) c k t ∗ Give (F := F) c k t ∗ Led (F := F) c k w t ∗ Ow (F := F) c i)
      ⊢ iprop((iprop(Led (F := F) c k w (t + 1) ∗ scred (F := F) c k t ∗ Ow (F := F) c (i + 1)) -∗ WP c Kt Q) -∗ WP c (hopS c k t Kt) Q) := by
  unfold hopS PermI Give
  exact wp_hop m K c k ht hw hi (by rw [sndPay_S m c k h4]; exact owns_free _ _ _)

theorem wp_hopV {w t i : ℕ} (ht : t < 12) (h4 : 4 ≤ t % 6) (hw : t = w ∨ t = w + 1) (hi : hops.drop i = (k, t) :: hops.drop (i + 1)) :
    iprop(Env m K ∗ owns c (vS k (sl5 (t - 1))) fullShare.right (sent m k t c) ∗ PermI (F := F) c k t ∗ Give (F := F) c k t ∗ Led (F := F) c k w t ∗ Ow (F := F) c i)
      ⊢ iprop((iprop(Led (F := F) c k w (t + 1) ∗ scred (F := F) c k t ∗ Ow (F := F) c (i + 1)) -∗ WP c Kt Q) -∗ WP c (hopV c k t Kt) Q) := by
  unfold hopV PermI Give
  exact wp_hop m K c k ht hw hi (by rw [sndPay_V m c k h4])

theorem wp_waitS {w n i : ℕ} {j : Fin 2} (hj : par w = j) (ht : w < 12) (h4 : ¬ 4 ≤ w % 6) (hi : ∀ x ∈ hops.drop i, w < x.2) :
    iprop(Env m K ∗ scred (F := F) c k w ∗ Led (F := F) c k w n ∗ Ow (F := F) c i)
      ⊢ iprop((iprop(Led (F := F) c k (w + 1) n ∗ free (F := F) c (sS k j) ∗ owns c (vS k (sl5 w)) fullShare (rcvd m k w c) ∗ Got (F := F) c k w
            ∗ reached ER (rcell c k (w + 5)) ((w + 5) / 5) ∗ Ow (F := F) c i) -∗ WP c Kt Q)
          -∗ WP c (waitS k w Kt) Q) := by
  subst hj
  unfold waitS
  iintro H Hk
  iapply (wp_waitHop m K c k (nb_s k (par w)) ht hi) $$ H
  iintro ⟨HL, Hs, Hr, Hre, HO⟩
  ihave Hs := (Entails.of_eq (sndPay_S m c k h4)) $$ Hs
  ihave Hr := (Entails.of_eq (rcvPay_eq m c k w)) $$ Hr
  icases Hr with ⟨Hv, Hg⟩
  iapply Hk
  isplitl [HL]; · iexact HL
  isplitl [Hs]; · iexact Hs
  isplitl [Hv]; · iexact Hv
  isplitl [Hg]; · iexact Hg
  isplitl [Hre]; · iexact Hre
  iexact HO

theorem wp_waitV {w n i : ℕ} (ht : w < 12) (h4 : 4 ≤ w % 6) (hi : ∀ x ∈ hops.drop i, w < x.2) :
    iprop(Env m K ∗ scred (F := F) c k w ∗ Led (F := F) c k w n ∗ Half m c k (w - 1) ∗ Ow (F := F) c i)
      ⊢ iprop((iprop(Led (F := F) c k (w + 1) n ∗ Perm (F := F) c k (w - 1 + 5) ∗ owns c (vS k (sl5 w)) fullShare (rcvd m k w c) ∗ Got (F := F) c k w
            ∗ reached ER (rcell c k (w + 5)) ((w + 5) / 5) ∗ Ow (F := F) c i) -∗ WP c Kt Q)
          -∗ WP c (waitV k w Kt) Q) := by
  unfold waitV
  iintro ⟨HE, Hc, HL, HH, HO⟩ Hk
  iapply (wp_waitHop m K c k (nb_v k (sl5 (w - 1))) ht hi) $$ [HE Hc HL HO]
  · isplitl [HE]; · iexact HE
    isplitl [Hc]; · iexact Hc
    isplitl [HL]; · iexact HL
    iexact HO
  iintro ⟨HL, Hs, Hr, Hre, HO⟩
  ihave Hs := (Entails.of_eq (sndPay_V m c k h4)) $$ Hs
  ihave Hr := (Entails.of_eq (rcvPay_eq m c k w)) $$ Hr
  icases Hr with ⟨Hv, Hg⟩
  iapply Hk
  isplitl [HL]; · iexact HL
  isplitl [Hs HH]
  · iapply (Half_Perm m c k (w - 1) (sent m k w c))
    isplitl [HH]; · iexact HH
    iexact Hs
  isplitl [Hv]; · iexact Hv
  isplitl [Hg]; · iexact Hg
  isplitl [Hre]; · iexact Hre
  iexact HO

/-! ## The reduce-scatter -/

/-- The device's own tile sent: hop `t = 6p`. -/
theorem wp_sendOwn (p : Fin 2) {t w i : ℕ} (hp : 6 * p.val = t) {j : Fin 2} (hj : par t = j) (hw : t = w ∨ t = w + 1)
    (hi : hops.drop i = (k, t) :: hops.drop (i + 1)) (hv : sent m k t c = tr (xv m c (ownO c k p))) :
    iprop(Env m K ∗ Ld m c k (p, 0) ∗ free (F := F) c (sS k j) ∗ PermI (F := F) c k t ∗ Give (F := F) c k t
        ∗ Led (F := F) c k w t ∗ Ow (F := F) c i)
      ⊢ iprop((iprop(Ld m c k (p, 1) ∗ scred (F := F) c k t ∗ Led (F := F) c k w (t + 1) ∗ Ow (F := F) c (i + 1)) -∗ WP c Kt Q)
          -∗ WP c (sendOwn c k p Kt) Q) := by
  subst hp hj
  have h12 : 6 * p.val < 12 := by omega
  have h4 : ¬ 4 ≤ 6 * p.val % 6 := by omega
  unfold sendOwn
  iintro ⟨#HE, Hl, Hf, HP, HG, HL, HO⟩ Hk
  iapply (wp_waitLoad m K c k (p, 0) rfl) $$ [Hl HO]
  · isplitr; · iexact HE
    isplitl [Hl]; · iexact Hl
    iexact HO
  unfold LdR
  iintro ⟨⟨Hi, Hl, Hx⟩, HO⟩
  iapply (wp_ldL c k (xv m c (xO c k p 0))) $$ Hl
  iintro Hl
  iapply (wp_fill c k (par (6 * p.val)) (sent m k (6 * p.val) c) ((pay_own (xv m c (xO c k p 0))).trans hv.symm)) $$ Hf
  iintro Hs
  iapply (wp_hopS m K c k h12 h4 hw hi) $$ [Hs HP HG HL HO]
  · isplitr; · iexact HE
    isplitl [Hs]; · iexact Hs
    isplitl [HP]; · iexact HP
    isplitl [HG]; · iexact HG
    isplitl [HL]; · iexact HL
    iexact HO
  iintro ⟨HL, Hc, HO⟩
  iapply (wp_startLoad m c k (p, 1) rfl) $$ [Hi Hl Hx]
  · iapply (LdR_LdI m c k (p, 0))
    unfold LdR
    isplitl [Hi]; · iexact Hi
    isplitl [Hl]; · iexact Hl
    iexact Hx
  iintro Hl
  iapply Hk
  isplitl [Hl]; · iexact Hl
  isplitl [Hc]; · iexact Hc
  isplitl [HL]; · iexact HL
  iexact HO

/-- A reduce-scatter step: hop `t` received, hop `t + 1` sent. -/
theorem wp_stepRS (p : Fin 2) {s s' : Fin 3} {t i : ℕ} (x x' : PT) (hx : recvO c k s p = xO c k x.1 x.2) (hx' : recvO c k s' p = xO c k x'.1 x'.2)
    {j j' : Fin 2} (hj : par t = j) (hj' : par (t + 1) = j') (ht : t + 1 < 12) (h4 : ¬ 4 ≤ t % 6) (h4' : ¬ 4 ≤ (t + 1) % 6) (hlt : ∀ x ∈ hops.drop i, t < x.2)
    (hi : hops.drop i = (k, t + 1) :: hops.drop (i + 1)) (hv : sent m k (t + 1) c = tr (accT (rcvd m k t c) (xv m c (xO c k x.1 x.2)))) :
    iprop(Env m K ∗ Ld m c k x ∗ scred (F := F) c k t ∗ free (F := F) c (sS k j') ∗ PermI (F := F) c k (t + 1) ∗ Give (F := F) c k (t + 1)
        ∗ Led (F := F) c k t (t + 1) ∗ Ow (F := F) c i)
      ⊢ iprop((iprop(Ld m c k x' ∗ scred (F := F) c k (t + 1) ∗ free (F := F) c (sS k j) ∗ Got (F := F) c k t ∗ Perm (F := F) c k (t + 5)
            ∗ Led (F := F) c k (t + 1) (t + 2) ∗ Ow (F := F) c (i + 1)) -∗ WP c Kt Q)
          -∗ WP c (stepRS c k p s s' t Kt) Q) := by
  subst hj hj'
  unfold stepRS
  iintro ⟨#HE, Hl, Hc, Hf, HP, HG, HL, HO⟩ Hk
  iapply (wp_waitLoad m K c k x hx) $$ [Hl HO]
  · isplitr; · iexact HE
    isplitl [Hl]; · iexact Hl
    iexact HO
  unfold LdR
  iintro ⟨⟨Hi, Hl, Hx⟩, HO⟩
  iapply (wp_waitS m K c k rfl (by omega) h4 hlt) $$ [Hc HL HO]
  · isplitr; · iexact HE
    isplitl [Hc]; · iexact Hc
    isplitl [HL]; · iexact HL
    iexact HO
  iintro ⟨HL, Hf', Hr, Hg, Hre, HO⟩
  iapply (wp_ldV c k (sl5 t) (rcvd m k t c)) $$ Hr
  iintro Hr
  iapply (wp_ldL c k (xv m c (xO c k x.1 x.2))) $$ Hl
  iintro Hl
  iapply (wp_fill c k (par (t + 1)) (sent m k (t + 1) c) ((pay_acc (rcvd m k t c) (xv m c (xO c k x.1 x.2))).trans hv.symm)) $$ Hf
  iintro Hs
  iapply (wp_hopS m K c k ht h4' (.inl rfl) hi) $$ [Hs HP HG HL HO]
  · isplitr; · iexact HE
    isplitl [Hs]; · iexact Hs
    isplitl [HP]; · iexact HP
    isplitl [HG]; · iexact HG
    isplitl [HL]; · iexact HL
    iexact HO
  iintro ⟨HL, Hc, HO⟩
  iapply (wp_startLoad m c k x' hx') $$ [Hi Hl Hx]
  · iapply (LdR_LdI m c k x)
    unfold LdR
    isplitl [Hi]; · iexact Hi
    isplitl [Hl]; · iexact Hl
    iexact Hx
  iintro Hl
  iapply Hk
  isplitl [Hl]; · iexact Hl
  isplitl [Hc]; · iexact Hc
  isplitl [Hf']; · iexact Hf'
  isplitl [Hg]; · iexact Hg
  isplitl [Hr Hre]
  · iapply (mk_Perm c k t (rcvd m k t c))
    isplitl [Hr]; · iexact Hr
    iexact Hre
  isplitl [HL]; · iexact HL
  iexact HO

/-- The last step: the sum completed and normalised, and sent on. -/
theorem wp_stepFin (p : Fin 2) {t i : ℕ} {j j' : Fin 2} (hj : par t = j) (hj' : par (t + 1) = j') (ht : t + 1 < 12) (h4 : ¬ 4 ≤ t % 6) (h4' : ¬ 4 ≤ (t + 1) % 6) (hlt : ∀ x ∈ hops.drop i, t < x.2)
    (hi : hops.drop i = (k, t + 1) :: hops.drop (i + 1)) (hv : sent m k (t + 1) c = tr (outT m k c p (rcvd m k t c)))
    {Ky : T32 F → PR F} :
    iprop(Env m K ∗ Ld m c k (p, 3) ∗ scred (F := F) c k t ∗ free (F := F) c (sS k j') ∗ PermI (F := F) c k (t + 1) ∗ Give (F := F) c k (t + 1)
        ∗ Rs m c k p ∗ Gam m c ∗ Led (F := F) c k t (t + 1) ∗ Ow (F := F) c i)
      ⊢ iprop((iprop(LdI m c k ∗ scred (F := F) c k (t + 1) ∗ free (F := F) c (sS k j) ∗ Got (F := F) c k t ∗ Perm (F := F) c k (t + 5)
            ∗ RsI m c k ∗ free (F := F) c (tS k 1) ∗ Gam m c ∗ Led (F := F) c k (t + 1) (t + 2) ∗ Ow (F := F) c (i + 1))
            -∗ WP c (Ky (outT m k c p (rcvd m k t c))) Q)
          -∗ WP c (stepFin c k p t Ky) Q) := by
  subst hj hj'
  unfold stepFin
  iintro ⟨#HE, Hl, Hc, Hf, HP, HG, HR, Hgam, HL, HO⟩ Hk
  iapply (wp_waitLoad m K c k (p, 3) rfl) $$ [Hl HO]
  · isplitr; · iexact HE
    isplitl [Hl]; · iexact Hl
    iexact HO
  unfold LdR
  iintro ⟨⟨Hi, Hl, Hx⟩, HO⟩
  iapply (wp_waitS m K c k rfl (by omega) h4 hlt) $$ [Hc HL HO]
  · isplitr; · iexact HE
    isplitl [Hc]; · iexact Hc
    isplitl [HL]; · iexact HL
    iexact HO
  iintro ⟨HL, Hf', Hr, Hg, Hre, HO⟩
  iapply (wp_ldV c k (sl5 t) (rcvd m k t c)) $$ Hr
  iintro Hr
  iapply (wp_ldL c k (xv m c (xO c k p 3))) $$ Hl
  iintro Hl
  iapply (wp_waitRes m K c k p) $$ [HR HO]
  · isplitr; · iexact HE
    isplitl [HR]; · iexact HR
    iexact HO
  iintro ⟨HR, Ht, HO⟩
  iapply (wp_ldT c k 1 (rv m c (finO c k p))) $$ Ht
  iintro Ht
  iapply (wp_ldG m c) $$ Hgam
  iintro Hgam
  have hs : k0_pay14 (up4 (rcvd m k t c)) (up3 (xv m c (xO c k p 3))) = accT (rcvd m k t c) (xv m c (recvO c k 2 p)) := pay_sum _ _
  iapply (wp_fill c k (par (t + 1)) (sent m k (t + 1) c)
    ((pay_fin (k0_pay14 (up4 (rcvd m k t c)) (up3 (xv m c (xO c k p 3)))) (rv m c (finO c k p)) (gv m c)).trans
      (by rw [hs, hv]; rfl))) $$ Hf
  iintro Hs
  iapply (wp_hopS m K c k ht h4' (.inl rfl) hi) $$ [Hs HP HG HL HO]
  · isplitr; · iexact HE
    isplitl [Hs]; · iexact Hs
    isplitl [HP]; · iexact HP
    isplitl [HG]; · iexact HG
    isplitl [HL]; · iexact HL
    iexact HO
  iintro ⟨HL, Hc, HO⟩
  rw [hs]
  iapply Hk
  isplitl [Hi Hl Hx]
  · iapply (LdR_LdI m c k (p, 3))
    unfold LdR
    isplitl [Hi]; · iexact Hi
    isplitl [Hl]; · iexact Hl
    iexact Hx
  isplitl [Hc]; · iexact Hc
  isplitl [Hf']; · iexact Hf'
  isplitl [Hg]; · iexact Hg
  isplitl [Hr Hre]
  · iapply (mk_Perm c k t (rcvd m k t c))
    isplitl [Hr]; · iexact Hr
    iexact Hre
  isplitl [HR]; · iexact HR
  isplitl [Ht]; · iapply (owns_free c (tS k 1) _); iexact Ht
  isplitl [Hgam]; · iexact Hgam
  isplitl [HL]; · iexact HL
  iexact HO

/-! ## The all-gather -/

theorem wp_putFin (p : Fin 2) {y : T32 F} (hy : y = ov m c k p 0) :
    iprop(StI (F := F) c k 0 ∗ OF (F := F) c k (p, 0)) ⊢ iprop((St m c k 0 (p, 0) -∗ WP c Kt Q) -∗ WP c (putFin c k p y Kt) Q) := by
  unfold putFin; exact wp_put m c k 0 (p, 0) rfl ((pay_put y).trans hy)

theorem wp_putGat (p : Fin 2) {h : Fin 3} {j : Fin 2} {t : ℕ} {q : PosShare TreeShare} (x : PT) (hx : gatO c k h p = oO c k x.1 x.2)
    (hv : ex (rcvd m k t c) = ov m c k x.1 x.2) :
    iprop(owns c (vS k (sl5 t)) q (rcvd m k t c) ∗ StI (F := F) c k j ∗ OF (F := F) c k x)
      ⊢ iprop((iprop(owns c (vS k (sl5 t)) q (rcvd m k t c) ∗ St m c k j x) -∗ WP c Kt Q) -∗ WP c (putGat c k p h j t Kt) Q) := by
  unfold putGat
  iintro ⟨Hv, Hi, Ho⟩ Hk
  iapply (wp_ldV c k (sl5 t) (rcvd m k t c)) $$ Hv
  iintro Hv
  iapply (wp_put m c k j x hx ((pay_gat (rcvd m k t c)).trans hv)) $$ [Hi Ho]
  · isplitl [Hi]; · iexact Hi
    iexact Ho
  iintro Hs
  iapply Hk
  isplitl [Hv]; · iexact Hv
  iexact Hs

/-- The slot just received forwarded as hop `t + 1`: the device keeps half of it. -/
theorem wp_forward {t i : ℕ} (ht : t + 1 < 12) (h4 : 4 ≤ (t + 1) % 6)
    (hi : hops.drop i = (k, t + 1) :: hops.drop (i + 1)) (hv : sent m k (t + 1) c = rcvd m k t c) :
    iprop(Env m K ∗ owns c (vS k (sl5 t)) fullShare (rcvd m k t c) ∗ PermI (F := F) c k (t + 1) ∗ Give (F := F) c k (t + 1)
        ∗ Led (F := F) c k (t + 1) (t + 1) ∗ Ow (F := F) c i)
      ⊢ iprop((iprop(owns c (vS k (sl5 t)) fullShare.left (rcvd m k t c) ∗ scred (F := F) c k (t + 1) ∗ Led (F := F) c k (t + 1) (t + 2)
            ∗ Ow (F := F) c (i + 1)) -∗ WP c Kt Q)
          -∗ WP c (hopV c k (t + 1) Kt) Q) := by
  iintro ⟨#HE, Hv, HP, HG, HL, HO⟩ Hk
  ihave Hv2 := (owns_split c (vS k (sl5 t)) (rcvd m k t c)) $$ Hv
  icases Hv2 with ⟨Hv, Hs⟩
  iapply (wp_hopV m K c k ht h4 (.inl rfl) hi) $$ [Hs HP HG HL HO]
  · isplitr; · iexact HE
    isplitl [Hs]; · rw [hv]; iexact Hs
    isplitl [HP]; · iexact HP
    isplitl [HG]; · iexact HG
    isplitl [HL]; · iexact HL
    iexact HO
  iintro ⟨HL, Hc, HO⟩
  iapply Hk
  isplitl [Hv]; · iexact Hv
  isplitl [Hc]; · iexact Hc
  isplitl [HL]; · iexact HL
  iexact HO

/-- The slot received last is written out, whole or by the half kept. -/
theorem wp_putHalf (p : Fin 2) {h : Fin 3} {j : Fin 2} {t : ℕ} (x : PT) (hx : gatO c k h p = oO c k x.1 x.2)
    (hv : ex (rcvd m k t c) = ov m c k x.1 x.2) :
    iprop(Half m c k t ∗ StI (F := F) c k j ∗ OF (F := F) c k x)
      ⊢ iprop((iprop(Half m c k t ∗ St m c k j x) -∗ WP c Kt Q) -∗ WP c (putGat c k p h j t Kt) Q) := by
  unfold Half
  iintro ⟨⟨Hv, #Hr⟩, Hi, Ho⟩ Hk
  iapply (wp_putGat m c k p x hx hv) $$ [Hv Hi Ho]
  · iframe
  iintro ⟨Hv, Hs⟩
  iapply Hk
  isplitl [Hv]
  · isplitl [Hv]; · iexact Hv
    iexact Hr
  iexact Hs

/-- The gather's first step: hop `t` received, forwarded and written out. -/
theorem wp_gat0 (p : Fin 2) {t i : ℕ} {j : Fin 2} (hj : par t = j) (ht : t + 1 < 12) (h4 : ¬ 4 ≤ t % 6) (h4' : 4 ≤ (t + 1) % 6)
    (hlt : ∀ x ∈ hops.drop i, t < x.2) (hi : hops.drop i = (k, t + 1) :: hops.drop (i + 1)) (hs : sent m k (t + 1) c = rcvd m k t c)
    (hv : ex (rcvd m k t c) = ov m c k p 1) :
    iprop(Env m K ∗ scred (F := F) c k t ∗ PermI (F := F) c k (t + 1) ∗ Give (F := F) c k (t + 1) ∗ Led (F := F) c k t (t + 1)
        ∗ StI (F := F) c k 1 ∗ OF (F := F) c k (p, 1) ∗ Ow (F := F) c i)
      ⊢ iprop((iprop(free (F := F) c (sS k j) ∗ Got (F := F) c k t ∗ Half m c k t ∗ scred (F := F) c k (t + 1) ∗ Led (F := F) c k (t + 1) (t + 2)
            ∗ St m c k 1 (p, 1) ∗ Ow (F := F) c (i + 1)) -∗ WP c Kt Q)
          -∗ WP c (waitS k t <| hopV c k (t + 1) <| putGat c k p 0 1 t Kt) Q) := by
  iintro ⟨#HE, Hc, HP, HG, HL, Hst, Ho, HO⟩ Hk
  iapply (wp_waitS m K c k hj (by omega) h4 hlt) $$ [Hc HL HO]
  · iframe # ∗
  iintro ⟨HL, Hf, Hr, Hg, #Hre, HO⟩
  iapply (wp_forward m K c k ht h4' hi hs) $$ [Hr HP HG HL HO]
  · iframe # ∗
  iintro ⟨Hr, Hc, HL, HO⟩
  iapply (wp_putGat m c k p (p, 1) rfl hv) $$ [Hr Hst Ho]
  · iframe
  iintro ⟨Hr, Hst⟩
  iapply Hk
  unfold Half
  iframe # ∗

/-- Its second step: hop `t` received out of the slot forwarded, and forwarded. -/
theorem wp_gat1 {t i : ℕ} (ht : t + 1 < 12) (h4 : 4 ≤ t % 6) (h4' : 4 ≤ (t + 1) % 6)
    (hlt : ∀ x ∈ hops.drop i, t < x.2) (hi : hops.drop i = (k, t + 1) :: hops.drop (i + 1)) (hs : sent m k (t + 1) c = rcvd m k t c) :
    iprop(Env m K ∗ scred (F := F) c k t ∗ Half m c k (t - 1) ∗ PermI (F := F) c k (t + 1) ∗ Give (F := F) c k (t + 1) ∗ Led (F := F) c k t (t + 1)
        ∗ Ow (F := F) c i)
      ⊢ iprop((iprop(Perm (F := F) c k (t - 1 + 5) ∗ Got (F := F) c k t ∗ Half m c k t ∗ scred (F := F) c k (t + 1) ∗ Led (F := F) c k (t + 1) (t + 2)
            ∗ Ow (F := F) c (i + 1)) -∗ WP c Kt Q)
          -∗ WP c (waitV k t <| hopV c k (t + 1) Kt) Q) := by
  iintro ⟨#HE, Hc, Hh, HP, HG, HL, HO⟩ Hk
  iapply (wp_waitV m K c k (by omega) h4 hlt) $$ [Hc Hh HL HO]
  · iframe # ∗
  iintro ⟨HL, Hp, Hr, Hg, #Hre, HO⟩
  iapply (wp_forward m K c k ht h4' hi hs) $$ [Hr HP HG HL HO]
  · iframe # ∗
  iintro ⟨Hr, Hc, HL, HO⟩
  iapply Hk
  unfold Half
  iframe # ∗

/-- Its last step: hop `t` received and written out once the slot is free. -/
theorem wp_gat2 (p : Fin 2) {n t i : ℕ} (ht : t < 12) (h4 : 4 ≤ t % 6) (hlt : ∀ x ∈ hops.drop i, t < x.2) (hv : ex (rcvd m k t c) = ov m c k p 3) :
    iprop(Env m K ∗ scred (F := F) c k t ∗ Half m c k (t - 1) ∗ Led (F := F) c k t n ∗ St m c k 1 (p, 1) ∗ OF (F := F) c k (p, 3) ∗ Ow (F := F) c i)
      ⊢ iprop((iprop(Perm (F := F) c k (t - 1 + 5) ∗ Perm (F := F) c k (t + 5) ∗ Led (F := F) c k (t + 1) n ∗ OD m c k (p, 1) ∗ St m c k 1 (p, 3)
            ∗ Ow (F := F) c i) -∗ WP c Kt Q)
          -∗ WP c (waitV k t <| waitStore k 1 (gatO c k 0 p) <| putGat c k p 2 1 t Kt) Q) := by
  iintro ⟨#HE, Hc, Hh, HL, Hst, Ho, HO⟩ Hk
  iapply (wp_waitV m K c k ht h4 hlt) $$ [Hc Hh HL HO]
  · iframe # ∗
  iintro ⟨HL, Hp, Hr, -, #Hre, HO⟩
  iapply (wp_waitStore m K c k 1 (p, 1) rfl) $$ [Hst HO]
  · iframe # ∗
  iintro ⟨Hst, Hod, HO⟩
  iapply (wp_putGat m c k p (p, 3) rfl hv) $$ [Hr Hst Ho]
  · iframe
  iintro ⟨Hr, Hst⟩
  iapply Hk
  ihave Hp' := (mk_Perm c k t (rcvd m k t c)) $$ [Hr]
  · iframe # ∗
  iframe

end Cert.KernelIdeal.AR

end
-- ==== Proof.Rows.lean ====
/-
The rows of the program: one step of each of the four streams.
-/
module

public import proofs.«01_k».proof.Proof.Steps

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

/-! ## Four streams -/

/-- `P` for each stream. -/
abbrev A4 (P : Fin 4 → sProp 𝕄) : sProp 𝕄 := bigSep Finset.univ P

omit [FloatOps F] in
theorem A4_eq (P : Fin 4 → sProp 𝕄) : A4 P = iprop(P 0 ∗ P 1 ∗ P 2 ∗ P 3) := by
  unfold A4
  rw [bigSep_univ_eq_bigSepL [0, 1, 2, 3] (by decide) (by decide), bigSepL_cons_cons, bigSepL_cons_cons, bigSepL_cons_cons, bigSepL_singleton]
  rfl

omit [FloatOps F] in
theorem A4_sep (P R : Fin 4 → sProp 𝕄) : A4 (fun k => iprop(P k ∗ R k)) = iprop(A4 P ∗ A4 R) := bigSep_sep _ _ _
omit [FloatOps F] in
theorem A4_pair (P : Fin 4 → sProp 𝕄) : A4 (fun k => P (pair k)) = A4 P :=
  (bigSep_univ_equiv (⟨pair, pair, pair_pair, pair_pair⟩ : Fin 4 ≃ Fin 4) P).symm
omit [FloatOps F] in
theorem A4_mono {P R : Fin 4 → sProp 𝕄} (h : ∀ k, P k ⊢ R k) : A4 P ⊢ A4 R := bigSep_mono fun k _ => h k

variable (m : (ℓ : Loc nD τ sig) → Buf (Elt F) ℓ) (K : Dev nD × CI → ℕ) (c : Dev nD)
variable {Q : PUnit → sProp (MM F)} {Kt : PR F}

/-- A row from one step of a stream: `P` and `R` are each stream's before and after, `O` is handed from stream to stream. -/
theorem wp_row {f : Fin 4 → PR F → PR F} {P R : Fin 4 → sProp (MM F)} {O : ℕ → sProp (MM F)}
    (h : ∀ (k : Fin 4) (Kt : PR F), iprop(Env m K ∗ P k ∗ O k.val) ⊢ iprop((iprop(R k ∗ O (k.val + 1)) -∗ WP c Kt Q) -∗ WP c (f k Kt) Q)) :
    iprop(Env m K ∗ A4 P ∗ O 0) ⊢ iprop((iprop(A4 R ∗ O 4) -∗ WP c Kt Q) -∗ WP c (each f Kt) Q) := by
  rw [A4_eq, A4_eq]
  unfold each
  have at' : ∀ (k : Fin 4) (n n' : ℕ), k.val = n → n + 1 = n' → ∀ Kt : PR F,
      iprop(Env m K ∗ P k ∗ O n) ⊢ iprop((iprop(R k ∗ O n') -∗ WP c Kt Q) -∗ WP c (f k Kt) Q) := by
    rintro k _ _ rfl rfl Kt; exact h k Kt
  iintro ⟨#HE, ⟨H0, H1, H2, H3⟩, HO⟩ Hk
  iapply (at' 0 0 1 rfl rfl _) $$ [H0 HO]
  · isplitr; · iexact HE
    isplitl [H0]; · iexact H0
    iexact HO
  iintro ⟨H0, HO⟩
  iapply (at' 1 1 2 rfl rfl _) $$ [H1 HO]
  · isplitr; · iexact HE
    isplitl [H1]; · iexact H1
    iexact HO
  iintro ⟨H1, HO⟩
  iapply (at' 2 2 3 rfl rfl _) $$ [H2 HO]
  · isplitr; · iexact HE
    isplitl [H2]; · iexact H2
    iexact HO
  iintro ⟨H2, HO⟩
  iapply (at' 3 3 4 rfl rfl _) $$ [H3 HO]
  · isplitr; · iexact HE
    isplitl [H3]; · iexact H3
    iexact HO
  iintro ⟨H3, HO⟩
  iapply Hk
  isplitr [HO]; swap; · iexact HO
  isplitl [H0]; · iexact H0
  isplitl [H1]; · iexact H1
  isplitl [H2]; · iexact H2
  iexact H3

/-! ## Rights that change hands -/

omit [FloatOps F] in
theorem Give_nil {k : Fin 4} {t : ℕ} (h : carry k t = []) : ⊢ (Give (F := F) c k t : sProp 𝕄) := by
  unfold Give; rw [h]; exact BI.Entails.refl _
omit [FloatOps F] in
/-- Rights over slots released by each stream are given away by its pair. -/
theorem Give_one {u t : ℕ} (h : ∀ k, carry k t = [u]) : A4 (fun k => Perm (F := F) c k u) ⊢ A4 (fun k => Give (F := F) c k t) := by
  rw [← A4_pair]
  refine A4_mono fun k => ?_
  unfold Give; rw [h]; unfold perms perms
  iintro H
  isplitl [H]; · iexact H
  iempintro
omit [FloatOps F] in
theorem Got_one {u t : ℕ} (h : ∀ k, carry k t = [u]) : A4 (fun k => Got (F := F) c k t) ⊢ A4 (fun k => PermI (F := F) c k u) := by
  rw [← A4_pair (fun k => PermI (F := F) c k u)]
  refine A4_mono fun k => ?_
  unfold Got PermI srcD; rw [h]; unfold perms perms
  iintro ⟨H, -⟩; iexact H

/-- The rights over slot 3 handed on within the row of hop 4. -/
def T4 (i : ℕ) : sProp 𝕄 := match i with
  | 0 => iprop(emp) | 1 => Perm (F := F) c 0 8 | 2 => Perm (F := F) c 1 8
  | 3 => iprop(Perm (F := F) c 1 8 ∗ Perm (F := F) c 2 8) | _ => iprop(Perm (F := F) c 1 8 ∗ Perm (F := F) c 3 8)

omit [FloatOps F] in
theorem T4_step (k : Fin 4) : iprop(T4 (F := F) c k.val ∗ Perm (F := F) c k 8) ⊢ iprop(Give (F := F) c k 6 ∗ T4 (F := F) c (k.val + 1)) :=
  match k with
  | 0 => show iprop(emp ∗ Perm (F := F) c 0 8) ⊢ iprop(emp ∗ Perm (F := F) c 0 8) from BI.Entails.refl _
  | 1 => by
    show iprop(Perm (F := F) c 0 8 ∗ Perm (F := F) c 1 8) ⊢ iprop((Perm (F := F) c 0 8 ∗ emp) ∗ Perm (F := F) c 1 8)
    iintro ⟨H1, H2⟩; iframe
  | 2 => by
    show iprop(Perm (F := F) c 1 8 ∗ Perm (F := F) c 2 8) ⊢ iprop(emp ∗ Perm (F := F) c 1 8 ∗ Perm (F := F) c 2 8)
    iintro ⟨H1, H2⟩; iframe
  | 3 => by
    show iprop((Perm (F := F) c 1 8 ∗ Perm (F := F) c 2 8) ∗ Perm (F := F) c 3 8) ⊢ iprop((Perm (F := F) c 2 8 ∗ emp) ∗ Perm (F := F) c 1 8 ∗ Perm (F := F) c 3 8)
    iintro ⟨⟨H1, H2⟩, H3⟩; iframe

omit [FloatOps F] in
theorem Give_7 : iprop(T4 (F := F) c 4 ∗ A4 (fun k => Perm (F := F) c k 9) ∗ A4 (fun k => Perm (F := F) c k 10)) ⊢ A4 (fun k => Give (F := F) c k 7) := by
  rw [A4_eq, A4_eq, A4_eq]
  show iprop((Perm (F := F) c 1 8 ∗ Perm (F := F) c 3 8) ∗ (Perm (F := F) c 0 9 ∗ Perm (F := F) c 1 9 ∗ Perm (F := F) c 2 9 ∗ Perm (F := F) c 3 9)
      ∗ (Perm (F := F) c 0 10 ∗ Perm (F := F) c 1 10 ∗ Perm (F := F) c 2 10 ∗ Perm (F := F) c 3 10))
    ⊢ iprop((Perm (F := F) c 1 8 ∗ Perm (F := F) c 1 9 ∗ Perm (F := F) c 1 10 ∗ emp) ∗ (Perm (F := F) c 0 9 ∗ Perm (F := F) c 0 10 ∗ emp)
      ∗ (Perm (F := F) c 3 8 ∗ Perm (F := F) c 3 9 ∗ Perm (F := F) c 3 10 ∗ emp) ∗ (Perm (F := F) c 2 9 ∗ Perm (F := F) c 2 10 ∗ emp))
  iintro ⟨⟨H1, H2⟩, ⟨H3, H4, H5, H6⟩, ⟨H7, H8, H9, H10⟩⟩; iframe

/-- The rights to write hop 8, handed on within the row of hop 7. -/
def T7 (i : ℕ) : sProp 𝕄 := match i with
  | 0 => iprop(PermI (F := F) c 0 8 ∗ PermI (F := F) c 2 8) | 1 => iprop(PermI (F := F) c 1 8 ∗ PermI (F := F) c 2 8)
  | 2 => PermI (F := F) c 2 8 | 3 => PermI (F := F) c 3 8 | _ => iprop(emp)
def T7' (k : Fin 4) : sProp 𝕄 := match k with
  | 0 => PermI (F := F) c 2 8 | 1 => PermI (F := F) c 2 8 | _ => iprop(emp)

omit [FloatOps F] in
theorem T7_0 : A4 (fun k => Got (F := F) c k 6) ⊢ T7 (F := F) c 0 := by
  rw [A4_eq]
  show iprop(emp ∗ (PermI (F := F) c 0 8 ∗ emp) ∗ emp ∗ (PermI (F := F) c 2 8 ∗ emp)) ⊢ iprop(PermI (F := F) c 0 8 ∗ PermI (F := F) c 2 8)
  iintro ⟨-, ⟨H1, -⟩, -, ⟨H2, -⟩⟩; iframe
omit [FloatOps F] in
theorem T7_use (k : Fin 4) : T7 (F := F) c k.val ⊢ iprop(PermI (F := F) c k 8 ∗ T7' (F := F) c k) :=
  match k with
  | 0 => BI.Entails.refl _
  | 1 => BI.Entails.refl _
  | 2 => show PermI (F := F) c 2 8 ⊢ iprop(PermI (F := F) c 2 8 ∗ emp) by iintro H; iframe
  | 3 => show PermI (F := F) c 3 8 ⊢ iprop(PermI (F := F) c 3 8 ∗ emp) by iintro H; iframe
omit [FloatOps F] in
theorem T7_step (k : Fin 4) : iprop(T7' (F := F) c k ∗ Got (F := F) c k 7)
    ⊢ iprop((PermI (F := F) c (pair k) 9 ∗ PermI (F := F) c (pair k) 10) ∗ T7 (F := F) c (k.val + 1)) :=
  match k with
  | 0 => by
    show iprop(PermI (F := F) c 2 8 ∗ (PermI (F := F) c 1 8 ∗ PermI (F := F) c 1 9 ∗ PermI (F := F) c 1 10 ∗ emp))
      ⊢ iprop((PermI (F := F) c 1 9 ∗ PermI (F := F) c 1 10) ∗ PermI (F := F) c 1 8 ∗ PermI (F := F) c 2 8)
    iintro ⟨H1, H2, H3, H4, -⟩; iframe
  | 1 => by
    show iprop(PermI (F := F) c 2 8 ∗ (PermI (F := F) c 0 9 ∗ PermI (F := F) c 0 10 ∗ emp))
      ⊢ iprop((PermI (F := F) c 0 9 ∗ PermI (F := F) c 0 10) ∗ PermI (F := F) c 2 8)
    iintro ⟨H1, H2, H3, -⟩; iframe
  | 2 => by
    show iprop(emp ∗ (PermI (F := F) c 3 8 ∗ PermI (F := F) c 3 9 ∗ PermI (F := F) c 3 10 ∗ emp))
      ⊢ iprop((PermI (F := F) c 3 9 ∗ PermI (F := F) c 3 10) ∗ PermI (F := F) c 3 8)
    iintro ⟨-, H2, H3, H4, -⟩; iframe
  | 3 => by
    show iprop(emp ∗ (PermI (F := F) c 2 9 ∗ PermI (F := F) c 2 10 ∗ emp)) ⊢ iprop((PermI (F := F) c 2 9 ∗ PermI (F := F) c 2 10) ∗ emp)
    iintro ⟨-, H2, H3, -⟩; iframe

/-! ## The order of the hops -/

theorem at_row (k : Fin 4) (t : Fin 5) : hops.drop (4 * t.val + k.val) = (k, t.val) :: hops.drop (4 * t.val + k.val + 1) := by revert k t; decide
theorem at_5 (k : Fin 4) : hops.drop (20 + 2 * k.val) = (k, 5) :: hops.drop (20 + 2 * k.val + 1) := by revert k; decide
theorem at_6 (k : Fin 4) : hops.drop (20 + 2 * k.val + 1) = (k, 6) :: hops.drop (20 + 2 * k.val + 1 + 1) := by revert k; decide
theorem at_row' (k : Fin 4) (t : Fin 5) : hops.drop (28 + 4 * t.val + k.val) = (k, 7 + t.val) :: hops.drop (28 + 4 * t.val + k.val + 1) := by
  revert k t; decide
theorem lt_row (k : Fin 4) (t : Fin 4) : ∀ x ∈ hops.drop (4 * (t.val + 1) + k.val), t.val < x.2 := by revert k t; decide
theorem lt_4 (k : Fin 4) : ∀ x ∈ hops.drop (20 + 2 * k.val), 4 < x.2 := by revert k; decide
theorem lt_5 : ∀ x ∈ hops.drop 28, 5 < x.2 := by decide
theorem lt_row' (k : Fin 4) (t : Fin 5) : ∀ x ∈ hops.drop (28 + 4 * t.val + k.val), 6 + t.val < x.2 := by revert k t; decide
theorem lt_11 : ∀ x ∈ hops.drop 48, 11 < x.2 := by decide

end Cert.KernelIdeal.AR

end
-- ==== Proof.Phase.lean ====
/-
Each row of the program, from one step of a stream.
-/
module

public import proofs.«01_k».proof.Proof.Rows

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ) (K : Dev nD × CI → ℕ) (c : Dev nD)
variable {Q : PUnit → sProp (MM F)}

/-- The first loads. -/
theorem row_load (Kt : PR F) :
    iprop(Env m K ∗ A4 (fun k => LdI m c k) ∗ Ow (F := F) c 0)
      ⊢ iprop((iprop(A4 (fun k => Ld m c k (0, 0)) ∗ Ow (F := F) c 0) -∗ WP c Kt Q) -∗ WP c (each (fun k K => startLoad k (ownO c k 0) K) Kt) Q) :=
  wp_row m K c (O := fun _ => Ow (F := F) c 0) fun k Kt => by
    iintro ⟨#HE, Hl, HO⟩ Hk
    iapply (wp_startLoad m c k (0, 0) rfl) $$ Hl
    iintro Hl
    iapply Hk; iframe

/-- Hop 0: the devices' own tiles. -/
theorem row_own (Kt : PR F) :
    iprop(Env m K ∗ A4 (fun k => iprop(Ld m c k (0, 0) ∗ free (F := F) c (sS k 0) ∗ PermI (F := F) c k 0 ∗ Led (F := F) c k 0 0 ∗ RsI m c k
        ∗ free (F := F) c (tS k 1))) ∗ Ow (F := F) c (0 + 0))
      ⊢ iprop((iprop(A4 (fun k => iprop(Ld m c k (0, 1) ∗ scred (F := F) c k 0 ∗ Led (F := F) c k 0 1 ∗ Rs m c k 0)) ∗ Ow (F := F) c (0 + 4)) -∗ WP c Kt Q)
        -∗ WP c (each (fun k K => sendOwn c k 0 <| startRes k (finO c k 0) K) Kt) Q) :=
  wp_row m K c (O := fun i => Ow (F := F) c (0 + i)) fun k Kt => by
    iintro ⟨#HE, ⟨Hl, Hf, HP, HL, HR, Ht⟩, HO⟩ Hk
    ihave HG := (Give_nil (F := F) c (k := k) (t := 0) rfl)
    iapply (wp_sendOwn m K c k 0 rfl (w := 0) (i := 0 + k.val) (j := 0) rfl (.inl rfl) (at_row k 0) rfl) $$ [Hl Hf HP HG HL HO]
    · iframe # ∗
    iintro ⟨Hl, Hc, HL, HO⟩
    iapply (wp_startRes m c k 0) $$ [HR Ht]
    · iframe
    iintro HR
    iapply Hk; iframe

/-- Hop 0 in, hop 1 out. -/
theorem row_rs0 (Kt : PR F) :
    iprop(Env m K ∗ A4 (fun k => iprop(Ld m c k (0, 1) ∗ scred (F := F) c k 0 ∗ free (F := F) c (sS k 1) ∗ PermI (F := F) c k 1 ∗ Led (F := F) c k 0 1))
        ∗ Ow (F := F) c (4 + 0))
      ⊢ iprop((iprop(A4 (fun k => iprop(Ld m c k (0, 2) ∗ scred (F := F) c k 1 ∗ free (F := F) c (sS k 0) ∗ Perm (F := F) c k 5 ∗ Led (F := F) c k 1 2))
          ∗ Ow (F := F) c (4 + 4)) -∗ WP c Kt Q)
        -∗ WP c (rowRS c 0 0 1 0 Kt) Q) :=
  wp_row m K c (O := fun i => Ow (F := F) c (4 + i)) fun k Kt => by
    iintro ⟨#HE, ⟨Hl, Hc, Hf, HP, HL⟩, HO⟩ Hk
    ihave HG := (Give_nil (F := F) c (k := k) (t := 1) rfl)
    iapply (wp_stepRS m K c k 0 (t := 0) (i := 4 + k.val) (0, 1) (0, 2) rfl rfl (j := 0) (j' := 1) rfl rfl (by decide) (by decide) (by decide) (lt_row k 0) (at_row k 1) (sent_acc0 m k c rfl rfl)) $$ [Hl Hc Hf HP HG HL HO]
    · iframe # ∗
    iintro ⟨Hl, Hc, Hf, -, HP, HL, HO⟩
    iapply Hk; iframe

/-- Hop 1 in, hop 2 out. -/
theorem row_rs1 (Kt : PR F) :
    iprop(Env m K ∗ A4 (fun k => iprop(Ld m c k (0, 2) ∗ scred (F := F) c k 1 ∗ free (F := F) c (sS k 0) ∗ PermI (F := F) c k 2 ∗ Give (F := F) c k 2 ∗ Led (F := F) c k 1 2)) ∗ Ow (F := F) c (8 + 0))
      ⊢ iprop((iprop(A4 (fun k => iprop(Ld m c k (0, 3) ∗ scred (F := F) c k 2 ∗ free (F := F) c (sS k 1) ∗ Perm (F := F) c k 6 ∗ Led (F := F) c k 2 3)) ∗ Ow (F := F) c (8 + 4)) -∗ WP c Kt Q)
        -∗ WP c (rowRS c 0 1 2 1 Kt) Q) :=
  wp_row m K c (O := fun i => Ow (F := F) c (8 + i)) fun k Kt => by
    iintro ⟨#HE, ⟨Hl, Hc, Hf, HP, HG, HL⟩, HO⟩ Hk
    iapply (wp_stepRS m K c k 0 (t := 1) (i := 8 + k.val) (0, 2) (0, 3) rfl rfl (j := 1) (j' := 0) rfl rfl (by decide) (by decide) (by decide) (lt_row k 1) (at_row k 2) (sent_acc1 m k c rfl rfl)) $$ [Hl Hc Hf HP HG HL HO]
    · iframe # ∗
    iintro ⟨Hl, Hc, Hf, -, HP, HL, HO⟩
    iapply Hk; iframe

/-- The sums of pass 0 completed. -/
theorem row_fin0 (Kt : PR F) :
    iprop(Env m K ∗ A4 (fun k => iprop(Ld m c k (0, 3) ∗ scred (F := F) c k 2 ∗ free (F := F) c (sS k 1) ∗ PermI (F := F) c k 3 ∗ Give (F := F) c k 3 ∗ Rs m c k 0 ∗ Led (F := F) c k 2 3 ∗ StI (F := F) c k 0 ∗ OF (F := F) c k (0, 0))) ∗ Gam m c ∗ Ow (F := F) c (12 + 0))
      ⊢ iprop((iprop(A4 (fun k => iprop(Ld m c k (1, 0) ∗ scred (F := F) c k 3 ∗ free (F := F) c (sS k 0) ∗ Got (F := F) c k 2 ∗ Perm (F := F) c k 7 ∗ RsI m c k ∗ free (F := F) c (tS k 1) ∗ Led (F := F) c k 3 4 ∗ St m c k 0 (0, 0))) ∗ Gam m c ∗ Ow (F := F) c (12 + 4)) -∗ WP c Kt Q)
        -∗ WP c (rowFin0 c Kt) Q) :=
  wp_row m K c (O := fun i => iprop(Gam m c ∗ Ow (F := F) c (12 + i))) fun k Kt => by
    iintro ⟨#HE, ⟨Hl, Hc, Hf, HP, HG, HR, HL, Hst, Ho⟩, Hgam, HO⟩ Hk
    iapply (wp_stepFin m K c k 0 (t := 2) (i := 12 + k.val) (j := 0) (j' := 1) rfl rfl (by decide) (by decide) (by decide) (lt_row k 2) (at_row k 3) (sent_fin m k c rfl rfl)) $$ [Hl Hc Hf HP HG HR Hgam HL HO]
    · iframe # ∗
    iintro ⟨Hl, Hc, Hf, Hg, HP, HR, Ht, Hgam, HL, HO⟩
    iapply (wp_putFin m c k 0 (ov_fin m k c rfl)) $$ [Hst Ho]
    · iframe
    iintro Hst
    iapply (wp_startLoad m c k (1, 0) rfl) $$ Hl
    iintro Hl
    iapply Hk; iframe

/-- Hop 3 in, hop 4 out. -/
theorem row_gat00 (Kt : PR F) :
    iprop(Env m K ∗ A4 (fun k => iprop(scred (F := F) c k 3 ∗ PermI (F := F) c k 4 ∗ Give (F := F) c k 4 ∗ Led (F := F) c k 3 4 ∗ StI (F := F) c k 1 ∗ OF (F := F) c k (0, 1))) ∗ Ow (F := F) c (16 + 0))
      ⊢ iprop((iprop(A4 (fun k => iprop(free (F := F) c (sS k 1) ∗ Got (F := F) c k 3 ∗ Half m c k 3 ∗ scred (F := F) c k 4 ∗ Led (F := F) c k 4 5 ∗ St m c k 1 (0, 1))) ∗ Ow (F := F) c (16 + 4)) -∗ WP c Kt Q)
        -∗ WP c (rowGat0 c 0 3 Kt) Q) :=
  wp_row m K c (O := fun i => Ow (F := F) c (16 + i)) fun k Kt => by
    iintro ⟨#HE, ⟨Hc, HP, HG, HL, Hst, Ho⟩, HO⟩ Hk
    iapply (wp_gat0 m K c k 0 (t := 3) (i := 16 + k.val) (j := 1) rfl (by decide) (by decide) (by decide) (lt_row k 3) (at_row k 4) (sent_fwd m k c (.inl rfl)) (ov_gat0 m k c rfl)) $$ [Hc HP HG HL Hst Ho HO]
    · iframe # ∗
    iintro ⟨Hf, Hg, Hh, Hc, HL, Hst, HO⟩
    iapply Hk; iframe

/-- Hop 4 in, hop 5 out, and hop 6: the devices' own tiles of pass 1. -/
theorem row_gat1 (Kt : PR F) :
    iprop(Env m K ∗ A4 (fun k => iprop(scred (F := F) c k 4 ∗ Half m c k 3 ∗ PermI (F := F) c k 5 ∗ PermI (F := F) c k 6 ∗ Ld m c k (1, 0) ∗ free (F := F) c (sS k 0) ∗ St m c k 0 (0, 0) ∗ OF (F := F) c k (0, 2) ∗ Led (F := F) c k 4 5)) ∗ T4 (F := F) c 0 ∗ Ow (F := F) c (20 + 2 * 0))
      ⊢ iprop((iprop(A4 (fun k => iprop(Half m c k 4 ∗ scred (F := F) c k 5 ∗ scred (F := F) c k 6 ∗ Got (F := F) c k 4 ∗ Ld m c k (1, 1) ∗ St m c k 0 (0, 2) ∗ OD m c k (0, 0) ∗ Led (F := F) c k 5 7)) ∗ T4 (F := F) c 4 ∗ Ow (F := F) c (20 + 2 * 4)) -∗ WP c Kt Q)
        -∗ WP c (rowGat1 c Kt) Q) :=
  wp_row m K c (O := fun i => iprop(T4 (F := F) c i ∗ Ow (F := F) c (20 + 2 * i))) fun k Kt => by
    iintro ⟨#HE, ⟨Hc, Hh, HP, HP', Hl, Hf, Hst, Ho, HL⟩, HT, HO⟩ Hk
    ihave HG := (Give_nil (F := F) c (k := k) (t := 5) rfl)
    iapply (wp_gat1 m K c k (t := 4) (i := 20 + 2 * k.val) (by decide) (by decide) (by decide) (lt_4 k) (at_5 k) (sent_fwd m k c (.inr rfl))) $$ [Hc Hh HP HG HL HO]
    · iframe # ∗
    iintro ⟨HP, Hg, Hh, Hc, HL, HO⟩
    ihave HT := (T4_step (F := F) c k) $$ [HT HP]
    · iframe
    icases HT with ⟨HG, HT⟩
    iapply (wp_sendOwn m K c k 1 (t := 6) rfl (w := 5) (i := 20 + 2 * k.val + 1) (j := 0) rfl (.inr rfl) (at_6 k) (sent_own m k c)) $$ [Hl Hf HP' HG HL HO]
    · iframe # ∗
    iintro ⟨Hl, Hc', HL, HO⟩
    iapply (wp_waitStore m K c k 0 (0, 0) rfl) $$ [Hst HO]
    · iframe # ∗
    iintro ⟨Hst, Hod, HO⟩
    iapply (wp_putHalf m c k 0 (t := 4) (0, 2) rfl (ov_gat1 m k c rfl)) $$ [Hh Hst Ho]
    · iframe
    iintro ⟨Hh, Hst⟩
    iapply Hk; iframe

/-- Hop 5 in. -/
theorem row_gat20 (Kt : PR F) :
    iprop(Env m K ∗ A4 (fun k => iprop(scred (F := F) c k 5 ∗ Half m c k 4 ∗ Led (F := F) c k 5 7 ∗ St m c k 1 (0, 1) ∗ OF (F := F) c k (0, 3))) ∗ Ow (F := F) c 28)
      ⊢ iprop((iprop(A4 (fun k => iprop(Perm (F := F) c k 9 ∗ Perm (F := F) c k 10 ∗ Led (F := F) c k 6 7 ∗ OD m c k (0, 1) ∗ St m c k 1 (0, 3))) ∗ Ow (F := F) c 28) -∗ WP c Kt Q)
        -∗ WP c (rowGat2 c 0 5 Kt) Q) :=
  wp_row m K c (O := fun i => Ow (F := F) c 28) fun k Kt => by
    iintro ⟨#HE, ⟨Hc, Hh, HL, Hst, Ho⟩, HO⟩ Hk
    iapply (wp_gat2 m K c k 0 (t := 5) (i := 28) (by decide) (by decide) lt_5 (ov_gat2 m k c rfl)) $$ [Hc Hh HL Hst Ho HO]
    · iframe # ∗
    iintro H
    iapply Hk
    icases H with ⟨H1, H2, H3, H4, H5, HO⟩
    iframe

/-- The last store of pass 0 done; the residual's tiles of pass 1. -/
theorem row_res (Kt : PR F) :
    iprop(Env m K ∗ A4 (fun k => iprop(St m c k 1 (0, 3) ∗ RsI m c k)) ∗ Ow (F := F) c 28)
      ⊢ iprop((iprop(A4 (fun k => iprop(OD m c k (0, 3) ∗ idle (F := F) c (stQ k 1) ∗ Rs m c k 1)) ∗ Ow (F := F) c 28) -∗ WP c Kt Q)
        -∗ WP c (rowRes c Kt) Q) :=
  wp_row m K c (O := fun i => Ow (F := F) c 28) fun k Kt => by
    iintro ⟨#HE, ⟨Hst, HR⟩, HO⟩ Hk
    iapply (wp_waitStore m K c k 1 (0, 3) rfl) $$ [Hst HO]
    · iframe # ∗
    unfold StI
    iintro ⟨⟨Hi, Ht⟩, Hod, HO⟩
    iapply (wp_startRes m c k 1) $$ [HR Ht]
    · iframe
    iintro HR
    iapply Hk; iframe

/-- Hop 6 in, hop 7 out. -/
theorem row_rs6 (Kt : PR F) :
    iprop(Env m K ∗ A4 (fun k => iprop(Ld m c k (1, 1) ∗ scred (F := F) c k 6 ∗ free (F := F) c (sS k 1) ∗ PermI (F := F) c k 7 ∗ Give (F := F) c k 7 ∗ Led (F := F) c k 6 7)) ∗ Ow (F := F) c (28 + 0))
      ⊢ iprop((iprop(A4 (fun k => iprop(Ld m c k (1, 2) ∗ scred (F := F) c k 7 ∗ free (F := F) c (sS k 0) ∗ Got (F := F) c k 6 ∗ Perm (F := F) c k 11 ∗ Led (F := F) c k 7 8)) ∗ Ow (F := F) c (28 + 4)) -∗ WP c Kt Q)
        -∗ WP c (rowRS c 1 0 1 6 Kt) Q) :=
  wp_row m K c (O := fun i => Ow (F := F) c (28 + i)) fun k Kt => by
    iintro ⟨#HE, ⟨Hl, Hc, Hf, HP, HG, HL⟩, HO⟩ Hk
    iapply (wp_stepRS m K c k 1 (t := 6) (i := 28 + k.val) (1, 1) (1, 2) rfl rfl (j := 0) (j' := 1) rfl rfl (by decide) (by decide) (by decide) (lt_row' k 0) (at_row' k 0) (sent_acc0 m k c rfl rfl)) $$ [Hl Hc Hf HP HG HL HO]
    · iframe # ∗
    iintro ⟨Hl, Hc, Hf, Hg, HP, HL, HO⟩
    iapply Hk; iframe

/-- Hop 7 in, hop 8 out. -/
theorem row_rs7 (Kt : PR F) :
    iprop(Env m K ∗ A4 (fun k => iprop(Ld m c k (1, 2) ∗ scred (F := F) c k 7 ∗ free (F := F) c (sS k 0) ∗ Give (F := F) c k 8 ∗ Led (F := F) c k 7 8)) ∗ T7 (F := F) c 0 ∗ Ow (F := F) c (32 + 0))
      ⊢ iprop((iprop(A4 (fun k => iprop(Ld m c k (1, 3) ∗ scred (F := F) c k 8 ∗ free (F := F) c (sS k 1) ∗ PermI (F := F) c (pair k) 9 ∗ PermI (F := F) c (pair k) 10 ∗ Perm (F := F) c k 12 ∗ Led (F := F) c k 8 9)) ∗ T7 (F := F) c 4 ∗ Ow (F := F) c (32 + 4)) -∗ WP c Kt Q)
        -∗ WP c (rowRS c 1 1 2 7 Kt) Q) :=
  wp_row m K c (O := fun i => iprop(T7 (F := F) c i ∗ Ow (F := F) c (32 + i))) fun k Kt => by
    iintro ⟨#HE, ⟨Hl, Hc, Hf, HG, HL⟩, HT, HO⟩ Hk
    ihave HT := (T7_use (F := F) c k) $$ HT
    icases HT with ⟨HP, HT⟩
    iapply (wp_stepRS m K c k 1 (t := 7) (i := 32 + k.val) (1, 2) (1, 3) rfl rfl (j := 1) (j' := 0) rfl rfl (by decide) (by decide) (by decide) (lt_row' k 1) (at_row' k 1) (sent_acc1 m k c rfl rfl)) $$ [Hl Hc Hf HP HG HL HO]
    · iframe # ∗
    iintro ⟨Hl, Hc, Hf, Hg, HP, HL, HO⟩
    ihave HT := (T7_step (F := F) c k) $$ [HT Hg]
    · iframe
    icases HT with ⟨⟨HP1, HP2⟩, HT⟩
    iapply Hk; iframe

/-- The sums of pass 1 completed. -/
theorem row_fin1 (Kt : PR F) :
    iprop(Env m K ∗ A4 (fun k => iprop(Ld m c k (1, 3) ∗ scred (F := F) c k 8 ∗ free (F := F) c (sS k 1) ∗ PermI (F := F) c k 9 ∗ Rs m c k 1 ∗ Led (F := F) c k 8 9 ∗ St m c k 0 (0, 2) ∗ OF (F := F) c k (1, 0))) ∗ Gam m c ∗ Ow (F := F) c (36 + 0))
      ⊢ iprop((iprop(A4 (fun k => iprop(LdI m c k ∗ scred (F := F) c k 9 ∗ free (F := F) c (sS k 0) ∗ Got (F := F) c k 8 ∗ Perm (F := F) c k 13 ∗ RsI m c k ∗ free (F := F) c (tS k 1) ∗ Led (F := F) c k 9 10 ∗ OD m c k (0, 2) ∗ St m c k 0 (1, 0))) ∗ Gam m c ∗ Ow (F := F) c (36 + 4)) -∗ WP c Kt Q)
        -∗ WP c (rowFin1 c Kt) Q) :=
  wp_row m K c (O := fun i => iprop(Gam m c ∗ Ow (F := F) c (36 + i))) fun k Kt => by
    iintro ⟨#HE, ⟨Hl, Hc, Hf, HP, HR, HL, Hst, Ho⟩, Hgam, HO⟩ Hk
    ihave HG := (Give_nil (F := F) c (k := k) (t := 9) rfl)
    iapply (wp_stepFin m K c k 1 (t := 8) (i := 36 + k.val) (j := 0) (j' := 1) rfl rfl (by decide) (by decide) (by decide) (lt_row' k 2) (at_row' k 2) (sent_fin m k c rfl rfl)) $$ [Hl Hc Hf HP HG HR Hgam HL HO]
    · iframe # ∗
    iintro ⟨Hl, Hc, Hf, Hg, HP, HR, Ht, Hgam, HL, HO⟩
    iapply (wp_waitStore m K c k 0 (0, 2) rfl) $$ [Hst HO]
    · iframe # ∗
    iintro ⟨Hst, Hod, HO⟩
    iapply (wp_putFin m c k 1 (ov_fin m k c rfl)) $$ [Hst Ho]
    · iframe
    iintro Hst
    iapply Hk; iframe

/-- Hop 9 in, hop 10 out. -/
theorem row_gat01 (Kt : PR F) :
    iprop(Env m K ∗ A4 (fun k => iprop(scred (F := F) c k 9 ∗ PermI (F := F) c k 10 ∗ Led (F := F) c k 9 10 ∗ StI (F := F) c k 1 ∗ OF (F := F) c k (1, 1))) ∗ Ow (F := F) c (40 + 0))
      ⊢ iprop((iprop(A4 (fun k => iprop(free (F := F) c (sS k 1) ∗ Half m c k 9 ∗ scred (F := F) c k 10 ∗ Led (F := F) c k 10 11 ∗ St m c k 1 (1, 1))) ∗ Ow (F := F) c (40 + 4)) -∗ WP c Kt Q)
        -∗ WP c (rowGat0 c 1 9 Kt) Q) :=
  wp_row m K c (O := fun i => Ow (F := F) c (40 + i)) fun k Kt => by
    iintro ⟨#HE, ⟨Hc, HP, HL, Hst, Ho⟩, HO⟩ Hk
    ihave HG := (Give_nil (F := F) c (k := k) (t := 10) rfl)
    iapply (wp_gat0 m K c k 1 (t := 9) (i := 40 + k.val) (j := 1) rfl (by decide) (by decide) (by decide) (lt_row' k 3) (at_row' k 3) (sent_fwd m k c (.inl rfl)) (ov_gat0 m k c rfl)) $$ [Hc HP HG HL Hst Ho HO]
    · iframe # ∗
    iintro ⟨Hf, -, Hh, Hc, HL, Hst, HO⟩
    iapply Hk; iframe

/-- Hop 10 in, hop 11 out. -/
theorem row_gat11 (Kt : PR F) :
    iprop(Env m K ∗ A4 (fun k => iprop(scred (F := F) c k 10 ∗ Half m c k 9 ∗ PermI (F := F) c k 11 ∗ St m c k 0 (1, 0) ∗ OF (F := F) c k (1, 2) ∗ Led (F := F) c k 10 11)) ∗ Ow (F := F) c (44 + 0))
      ⊢ iprop((iprop(A4 (fun k => iprop(Half m c k 10 ∗ scred (F := F) c k 11 ∗ Perm (F := F) c k 14 ∗ OD m c k (1, 0) ∗ St m c k 0 (1, 2) ∗ Led (F := F) c k 11 12)) ∗ Ow (F := F) c (44 + 4)) -∗ WP c Kt Q)
        -∗ WP c (rowGat1' c Kt) Q) :=
  wp_row m K c (O := fun i => Ow (F := F) c (44 + i)) fun k Kt => by
    iintro ⟨#HE, ⟨Hc, Hh, HP, Hst, Ho, HL⟩, HO⟩ Hk
    ihave HG := (Give_nil (F := F) c (k := k) (t := 11) rfl)
    iapply (wp_gat1 m K c k (t := 10) (i := 44 + k.val) (by decide) (by decide) (by decide) (lt_row' k 4) (at_row' k 4) (sent_fwd m k c (.inr rfl))) $$ [Hc Hh HP HG HL HO]
    · iframe # ∗
    iintro ⟨HP, -, Hh, Hc, HL, HO⟩
    iapply (wp_waitStore m K c k 0 (1, 0) rfl) $$ [Hst HO]
    · iframe # ∗
    iintro ⟨Hst, Hod, HO⟩
    iapply (wp_putHalf m c k 1 (t := 10) (1, 2) rfl (ov_gat1 m k c rfl)) $$ [Hh Hst Ho]
    · iframe
    iintro ⟨Hh, Hst⟩
    iapply Hk; iframe

/-- Hop 11 in. -/
theorem row_gat21 (Kt : PR F) :
    iprop(Env m K ∗ A4 (fun k => iprop(scred (F := F) c k 11 ∗ Half m c k 10 ∗ Led (F := F) c k 11 12 ∗ St m c k 1 (1, 1) ∗ OF (F := F) c k (1, 3))) ∗ Ow (F := F) c 48)
      ⊢ iprop((iprop(A4 (fun k => iprop(Perm (F := F) c k 15 ∗ Perm (F := F) c k 16 ∗ Led (F := F) c k 12 12 ∗ OD m c k (1, 1) ∗ St m c k 1 (1, 3))) ∗ Ow (F := F) c 48) -∗ WP c Kt Q)
        -∗ WP c (rowGat2 c 1 11 Kt) Q) :=
  wp_row m K c (O := fun i => Ow (F := F) c 48) fun k Kt => by
    iintro ⟨#HE, ⟨Hc, Hh, HL, Hst, Ho⟩, HO⟩ Hk
    iapply (wp_gat2 m K c k 1 (t := 11) (i := 48) (by decide) (by decide) lt_11 (ov_gat2 m k c rfl)) $$ [Hc Hh HL Hst Ho HO]
    · iframe # ∗
    iintro H
    iapply Hk
    icases H with ⟨H1, H2, H3, H4, H5, HO⟩
    iframe

/-- The last stores done. -/
theorem row_end (Kt : PR F) :
    iprop(Env m K ∗ A4 (fun k => iprop(St m c k 0 (1, 2) ∗ St m c k 1 (1, 3))) ∗ Ow (F := F) c 48)
      ⊢ iprop((iprop(A4 (fun k => iprop(StI (F := F) c k 0 ∗ StI (F := F) c k 1 ∗ OD m c k (1, 2) ∗ OD m c k (1, 3))) ∗ Ow (F := F) c 48) -∗ WP c Kt Q)
        -∗ WP c (rowEnd c Kt) Q) :=
  wp_row m K c (O := fun i => Ow (F := F) c 48) fun k Kt => by
    iintro ⟨#HE, ⟨Hst, Hst'⟩, HO⟩ Hk
    iapply (wp_waitStore m K c k 0 (1, 2) rfl) $$ [Hst HO]
    · iframe # ∗
    iintro ⟨Hst, Hod, HO⟩
    iapply (wp_waitStore m K c k 1 (1, 3) rfl) $$ [Hst' HO]
    · iframe # ∗
    iintro ⟨Hst', Hod', HO⟩
    iapply Hk; iframe

end Cert.KernelIdeal.AR

end
-- ==== Proof.Body.lean ====
/-
The whole body: the neighbours meet, then the rows in the program's order, and the cells close.
-/
module

public import proofs.«01_k».proof.Proof.Phase

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

/-- `P` for each tile of a stream. -/
abbrev A8 (P : PT → sProp 𝕄) : sProp 𝕄 := bigSep Finset.univ P

omit [FloatOps F] in
theorem A8_eq (P : PT → sProp 𝕄) :
    A8 P = iprop(P (0, 0) ∗ P (0, 1) ∗ P (0, 2) ∗ P (0, 3) ∗ P (1, 0) ∗ P (1, 1) ∗ P (1, 2) ∗ P (1, 3)) := by
  unfold A8
  rw [bigSep_univ_eq_bigSepL [(0, 0), (0, 1), (0, 2), (0, 3), (1, 0), (1, 1), (1, 2), (1, 3)] (by decide) (by decide)]
  simp only [bigSepL_cons_cons, bigSepL_singleton]
  rfl

variable (m : (ℓ : Loc nD τ sig) → Buf (Elt F) ℓ) (K : Dev nD × CI → ℕ) (c : Dev nD) (k : Fin 4)
variable {Q : PUnit → sProp (MM F)}

/-! ## The ends of a stream -/

/-- A stream's cells at zero. -/
def Zs : sProp 𝕄 :=
  iprop(semVal (scell c k 12) 0 ∗ semVal (scell c k 13) 0 ∗ semVal (rcell c k 12) 0 ∗ semVal (rcell c k 13) 0 ∗ semVal (rcell c k 14) 0
    ∗ semVal (rcell c k 15) 0 ∗ semVal (rcell c k 16) 0)

theorem close_s {t : ℕ} (ht : 12 ≤ t) : iprop(Env m K ∗ atPos ER (scell c k t) (t / 2) ∅ 0) ⊢ (|={Set.univ}=> semVal (scell c k t) 0 : sProp 𝕄) := by
  iintro ⟨#HE, Ha⟩
  iapply (Rounds.cell_close ER (Rd m) (Set.mem_univ (K (c, some (k, .inl (par t))))) (fun h => h) (R := t / 2) (later_s m c k ht))
  isplitr; · iapply (Env_s m K c k t); iexact HE
  iexact Ha
theorem close_r {t : ℕ} (ht : 12 ≤ t) : iprop(Env m K ∗ atPos ER (rcell c k t) (t / 5) ∅ 0) ⊢ (|={Set.univ}=> semVal (rcell c k t) 0 : sProp 𝕄) := by
  iintro ⟨#HE, Ha⟩
  iapply (Rounds.cell_close ER (Rd m) (Set.mem_univ (K (c, some (k, .inr (sl5 t))))) (fun h => h) (R := t / 5) (later_r m c k ht))
  isplitr; · iapply (Env_r m K c k t); iexact HE
  iexact Ha

theorem close_stream : iprop(Env m K ∗ Led (F := F) c k 12 12) ⊢ (|={Set.univ}=> Zs (F := F) c k : sProp 𝕄) := by
  unfold Led SW RW Zs
  iintro ⟨#HE, ⟨Ha, Hb, -, -⟩, ⟨H0, H1, H2, H3, H4⟩, -, -⟩
  imod (close_s m K c k (t := 12) (by decide)) $$ [Ha] with Ha
  · iframe # ∗
  imod (close_s m K c k (t := 13) (by decide)) $$ [Hb] with Hb
  · iframe # ∗
  imod (close_r m K c k (t := 12) (by decide)) $$ [H0] with H0
  · iframe # ∗
  imod (close_r m K c k (t := 13) (by decide)) $$ [H1] with H1
  · iframe # ∗
  imod (close_r m K c k (t := 14) (by decide)) $$ [H2] with H2
  · iframe # ∗
  imod (close_r m K c k (t := 15) (by decide)) $$ [H3] with H3
  · iframe # ∗
  imod (close_r m K c k (t := 16) (by decide)) $$ [H4] with H4
  · iframe # ∗
  imodintro
  iframe

theorem close_streams : iprop(Env m K ∗ A4 (fun k => Led (F := F) c k 12 12)) ⊢ (|={Set.univ}=> A4 (fun k => Zs (F := F) c k) : sProp 𝕄) := by
  rw [A4_eq, A4_eq]
  iintro ⟨#HE, H0, H1, H2, H3⟩
  imod (close_stream m K c 0) $$ [H0] with H0
  · iframe # ∗
  imod (close_stream m K c 1) $$ [H1] with H1
  · iframe # ∗
  imod (close_stream m K c 2) $$ [H2] with H2
  · iframe # ∗
  imod (close_stream m K c 3) $$ [H3] with H3
  · iframe # ∗
  imodintro
  iframe

/-- What stream `k` holds at rest: its tiles of the two inputs, its slots but those others write, and its idle semaphores. -/
def Rest : sProp 𝕄 :=
  iprop(LdI m c k ∗ RsI m c k ∗ StI (F := F) c k 0 ∗ StI (F := F) c k 1 ∗ free (F := F) c (sS k 0) ∗ free (F := F) c (sS k 1))

/-! ## After the neighbours have met -/

set_option maxHeartbeats 4000000 in
theorem wp_tail :
    iprop(Env m K ∗ A4 (fun k => Rest m c k) ∗ A4 (fun k => A8 (fun x => OF (F := F) c k x)) ∗ A4 (fun k => perms (F := F) (dstD c k) k early)
        ∗ A4 (fun k => Led (F := F) c k 0 0) ∗ Gam m c ∗ Ow (F := F) c 0)
      ⊢ iprop((iprop(A4 (fun k => Rest m c k) ∗ A4 (fun k => A8 (fun x => OD m c k x))
            ∗ A4 (fun k => iprop(Perm (F := F) c k 12 ∗ Perm (F := F) c k 13 ∗ Perm (F := F) c k 14 ∗ Perm (F := F) c k 15 ∗ Perm (F := F) c k 16))
            ∗ A4 (fun k => Zs (F := F) c k) ∗ Gam m c ∗ Ow (F := F) c 48) -∗ Q ⟨⟩)
          -∗ WP c (tailP c) Q) := by
  have hp : ∀ k, perms (F := F) (dstD c k) k early = iprop(PermI (F := F) c k 0 ∗ PermI (F := F) c k 1 ∗ PermI (F := F) c k 2 ∗ PermI (F := F) c k 3
      ∗ PermI (F := F) c k 4 ∗ emp) := fun k => rfl
  unfold tailP rowOwn
  simp only [A8_eq, A4_sep, Rest, hp]
  iintro ⟨#HE, ⟨Hl, HR, Hs0, HS1, Hf0, Hf1⟩, ⟨Ho0, Ho1, Ho2, Ho3, Ho4, Ho5, Ho6, Ho7⟩, ⟨HP0, HP1, HP2, HP3, HP4, -⟩, HL, Hg, HO⟩ Hk
  have hS : A4 (fun k => StI (F := F) c k 1) = iprop(A4 (fun k => idle (F := F) c (stQ k 1)) ∗ A4 (fun k => free (F := F) c (tS k 1))) := A4_sep _ _
  ihave HS1 := (Entails.of_eq hS) $$ HS1
  icases HS1 with ⟨Hi1, Ht1⟩
  iapply (row_load m K c _) $$ [Hl HO]
  · iframe # ∗
  iintro ⟨Hl, HO⟩
  have h := row_own m K c (Q := Q); simp only [A4_sep] at h
  iapply (h _) $$ [Hl Hf0 HP0 HL HR Ht1 HO]
  · iframe # ∗
  iintro ⟨⟨Hl, Hc, HL, HR⟩, HO⟩
  have h := row_rs0 m K c (Q := Q); simp only [A4_sep] at h
  iapply (h _) $$ [Hl Hc Hf1 HP1 HL HO]
  · iframe # ∗
  iintro ⟨⟨Hl, Hc, Hf0, HQ, HL⟩, HO⟩
  ihave HG := (Give_one (F := F) c (u := 5) (t := 2) fun _ => rfl) $$ HQ
  have h := row_rs1 m K c (Q := Q); simp only [A4_sep] at h
  iapply (h _) $$ [Hl Hc Hf0 HP2 HG HL HO]
  · iframe # ∗
  iintro ⟨⟨Hl, Hc, Hf1, HQ, HL⟩, HO⟩
  ihave HG := (Give_one (F := F) c (u := 6) (t := 3) fun _ => rfl) $$ HQ
  have h := row_fin0 m K c (Q := Q); simp only [A4_sep] at h
  iapply (h _) $$ [Hl Hc Hf1 HP3 HG HR HL Hs0 Ho0 Hg HO]
  · iframe # ∗
  iintro ⟨⟨Hl, Hc, Hf0, HP5, HQ, HR, Ht1, HL, Hs0⟩, Hg, HO⟩
  ihave HP5 := (Got_one (F := F) c (u := 5) (t := 2) fun _ => rfl) $$ HP5
  ihave HG := (Give_one (F := F) c (u := 7) (t := 4) fun _ => rfl) $$ HQ
  ihave HS1 := (Entails.of_eq hS.symm) $$ [Hi1 Ht1]
  · iframe
  have h := row_gat00 m K c (Q := Q); simp only [A4_sep] at h
  iapply (h _) $$ [Hc HP4 HG HL HS1 Ho1 HO]
  · iframe # ∗
  iintro ⟨⟨Hf1, HP6, Hh, Hc, HL, HS1⟩, HO⟩
  ihave HP6 := (Got_one (F := F) c (u := 6) (t := 3) fun _ => rfl) $$ HP6
  have h := row_gat1 m K c (Q := Q); simp only [A4_sep] at h
  iapply (h _) $$ [Hc Hh HP5 HP6 Hl Hf0 Hs0 Ho2 HL HO]
  · iframe # ∗
    unfold T4; iempintro
  iintro ⟨⟨Hh, Hc, Hc', HP7, Hl, Hs0, Hd0, HL⟩, HT, HO⟩
  ihave HP7 := (Got_one (F := F) c (u := 7) (t := 4) fun _ => rfl) $$ HP7
  have h := row_gat20 m K c (Q := Q); simp only [A4_sep] at h
  iapply (h _) $$ [Hc Hh HL HS1 Ho3 HO]
  · iframe # ∗
  iintro ⟨⟨HQ, HQ', HL, Hd1, HS1⟩, HO⟩
  ihave HG := (Give_7 (F := F) c) $$ [HT HQ HQ']
  · iframe
  have h := row_res m K c (Q := Q); simp only [A4_sep] at h
  iapply (h _) $$ [HS1 HR HO]
  · iframe # ∗
  iintro ⟨⟨Hd3, Hi1, HR⟩, HO⟩
  have h := row_rs6 m K c (Q := Q); simp only [A4_sep] at h
  iapply (h _) $$ [Hl Hc' Hf1 HP7 HG HL HO]
  · iframe # ∗
  iintro ⟨⟨Hl, Hc, Hf0, HT, HQ, HL⟩, HO⟩
  ihave HT := (T7_0 (F := F) c) $$ HT
  ihave HG := (Give_one (F := F) c (u := 11) (t := 8) fun _ => rfl) $$ HQ
  have h := row_rs7 m K c (Q := Q); simp only [A4_sep] at h
  iapply (h _) $$ [Hl Hc Hf0 HG HL HT HO]
  · iframe # ∗
  iintro ⟨⟨Hl, Hc, Hf1, HP9, HP10, HP12, HL⟩, -, HO⟩
  ihave HP9 := (Entails.of_eq (A4_pair (fun k => PermI (F := F) c k 9))) $$ HP9
  ihave HP10 := (Entails.of_eq (A4_pair (fun k => PermI (F := F) c k 10))) $$ HP10
  have h := row_fin1 m K c (Q := Q); simp only [A4_sep] at h
  iapply (h _) $$ [Hl Hc Hf1 HP9 HR HL Hs0 Ho4 Hg HO]
  · iframe # ∗
  iintro ⟨⟨Hl, Hc, Hf0, HP11, HP13, HR, Ht1, HL, Hd2, Hs0⟩, Hg, HO⟩
  ihave HP11 := (Got_one (F := F) c (u := 11) (t := 8) fun _ => rfl) $$ HP11
  ihave HS1 := (Entails.of_eq hS.symm) $$ [Hi1 Ht1]
  · iframe
  have h := row_gat01 m K c (Q := Q); simp only [A4_sep] at h
  iapply (h _) $$ [Hc HP10 HL HS1 Ho5 HO]
  · iframe # ∗
  iintro ⟨⟨Hf1, Hh, Hc, HL, HS1⟩, HO⟩
  have h := row_gat11 m K c (Q := Q); simp only [A4_sep] at h
  iapply (h _) $$ [Hc Hh HP11 Hs0 Ho6 HL HO]
  · iframe # ∗
  iintro ⟨⟨Hh, Hc, HP14, Hd4, Hs0, HL⟩, HO⟩
  have h := row_gat21 m K c (Q := Q); simp only [A4_sep] at h
  iapply (h _) $$ [Hc Hh HL HS1 Ho7 HO]
  · iframe # ∗
  iintro ⟨⟨HP15, HP16, HL, Hd5, HS1⟩, HO⟩
  have h := row_end m K c (Q := Q); simp only [A4_sep] at h
  iapply (h _) $$ [Hs0 HS1 HO]
  · iframe # ∗
  iintro ⟨⟨Hs0, HS1, Hd6, Hd7⟩, HO⟩
  imod (close_streams m K c) $$ [HL] with HZ
  · iframe # ∗
  rw [wp_ret]
  imodintro
  iapply Hk
  iframe

/-! ## The whole body -/

/-- What a device owes at the start: its hops, and a unit to each neighbour's barrier. -/
def O₀ (c : Dev nD) : CellTallies nD τ sig ℕ := owedL c hops + tallyAt (bcell (dstD c 0)) 0 1 + tallyAt (bcell (dstD c 1)) 0 1

/-- The barrier's share: the two duties to pay, where the neighbours' barriers stand, the device's own. -/
def Meet : sProp 𝕄 :=
  iprop(dutyTok ER (bcell (dstD c 1)) 0 true ∗ dutyTok ER (bcell (dstD c 0)) 0 false ∗ reached ER (bcell (dstD c 1)) 0 ∗ reached ER (bcell (dstD c 0)) 0
    ∗ atPos ER (bcell c) 0 ∅ 0 ∗ cred (tallyAt (bcell c) 0 2))

theorem Env_b (d : Dev nD) : Env m K ⊢ cellInv ER (Rd m) (K (d, none)) (bcell d) := Env_inv m K (d, none)

omit [FloatOps F] in
theorem pay_left : barPay (F := F) (dstD c 1) true = iprop(perms (F := F) c 0 early ∗ perms (F := F) c 2 early) := by
  unfold barPay
  rw [if_pos rfl, show dstD (dstD c 1) 0 = c from dstD_srcD c 0, show dstD (dstD c 1) 2 = c from dstD_srcD c 2]
omit [FloatOps F] in
theorem pay_right : barPay (F := F) (dstD c 0) false = iprop(perms (F := F) c 1 early ∗ perms (F := F) c 3 early) := by
  unfold barPay
  rw [if_neg (by decide), show dstD (dstD c 0) 1 = c from dstD_srcD c 1, show dstD (dstD c 0) 3 = c from dstD_srcD c 3]

theorem wp_body {W : Waits sig ℕ} :
    iprop(Env m K ∗ A4 (fun k => Rest m c k) ∗ A4 (fun k => A8 (fun x => OF (F := F) c k x)) ∗ A4 (fun k => perms (F := F) c k early)
        ∗ A4 (fun k => Led (F := F) c k 0 0) ∗ Gam m c ∗ Meet (F := F) c ∗ owes (c : Thread nD τ) (O₀ c) W)
      ⊢ iprop((iprop(A4 (fun k => Rest m c k) ∗ A4 (fun k => A8 (fun x => OD m c k x))
            ∗ A4 (fun k => iprop(Perm (F := F) c k 12 ∗ Perm (F := F) c k 13 ∗ Perm (F := F) c k 14 ∗ Perm (F := F) c k 15 ∗ Perm (F := F) c k 16))
            ∗ A4 (fun k => Zs (F := F) c k) ∗ Gam m c ∗ semVal (bcell c) 0 ∗ ∃ W, owes (c : Thread nD τ) 0 W) -∗ Q ⟨⟩)
          -∗ WP c bodyP Q) := by
  unfold bodyP Meet
  rw [A4_eq (fun k => perms (F := F) c k early)]
  simp only [WP, wp_deviceId]
  iintro ⟨#HE, HR, Ho, ⟨HP0, HP1, HP2, HP3⟩, HL, Hg, ⟨HtL, HtR, #HrL, #HrR, HaB, HcB⟩, HO⟩ Hk
  unfold O₀
  iapply (Rounds.wp_signal Variants.none ER (Rd m) (c : Thread nD τ) none (dst := (dstD c 1 : Thread nD τ)) (κ := K (dstD c 1, none))
      (d := true) (by rw [duties_b]; exact Finset.mem_univ _) ((amount_b m (dstD c 1) 0 true).trans (by decide)) 0
      (owedL c hops + tallyAt (bcell (dstD c 0)) 0 1) rfl) $$ [HO HtL HP0 HP2]
  · isplitr; · iapply (Env_b m K); iexact HE
    isplitl [HO]; · iexact HO
    isplitl [HtL]; · iexact HtL
    isplitl [HP0 HP2]
    · iapply (Entails.of_eq ((pay_b m (dstD c 1) true).trans (pay_left c)).symm)
      iframe
    iexact HrL
  iintro HO
  iapply (Rounds.wp_signal Variants.none ER (Rd m) (c : Thread nD τ) none (dst := (dstD c 0 : Thread nD τ)) (κ := K (dstD c 0, none))
      (d := false) (by rw [duties_b]; exact Finset.mem_univ _) ((amount_b m (dstD c 0) 0 false).trans (by decide)) 0
      (owedL c hops) rfl) $$ [HO HtR HP1 HP3]
  · isplitr; · iapply (Env_b m K); iexact HE
    isplitl [HO]; · iexact HO
    isplitl [HtR]; · iexact HtR
    isplitl [HP1 HP3]
    · iapply (Entails.of_eq ((pay_b m (dstD c 0) false).trans (pay_right c)).symm)
      iframe
    iexact HrR
  iintro HO
  iapply (Rounds.wp_wait_rest_token Variants.none ER (Rd m) (c : Thread nD τ) none (κ := K (c, none))
      (wpE_semWait_eq Variants.none (c : Thread nD τ) none Set.univ) (Set.mem_univ _) 0 (O := owedL c hops) (W := W) (R := 0) (m := 0) (T := ∅)
      (by rw [expect_b]; decide)) $$ [HcB HO HaB]
  · isplitr; · iapply (Env_b m K); iexact HE
    isplitl [HcB]; · iexact HcB
    isplitl [HO]; · iexact HO
    isplitr; · iapply (mayWait_b c); iapply (Env_lev m K); iexact HE
    iexact HaB
  iintro ⟨HO, HaB, -, Hp⟩
  ihave Hp := (Entails.of_eq (rest_b m c)) $$ Hp
  ihave Hp := (Entails.of_eq (show iprop(barPay (F := F) c false ∗ barPay (F := F) c true) =
    iprop((perms (F := F) (dstD c 1) 1 early ∗ perms (F := F) (dstD c 3) 3 early) ∗ (perms (F := F) (dstD c 0) 0 early ∗ perms (F := F) (dstD c 2) 2 early)) from rfl)) $$ Hp
  icases Hp with ⟨⟨HP1, HP3⟩, ⟨HP0, HP2⟩⟩
  imod (Rounds.cell_close ER (Rd m) (Set.mem_univ (K (c, none))) (fun h => h) (R := 0 + 1) (later_b m c)) $$ [HaB] with HzB
  · isplitr; · iapply (Env_b m K); iexact HE
    iexact HaB
  iapply (wp_tail m K c) $$ [HR Ho HP0 HP1 HP2 HP3 HL Hg HO]
  · rw [A4_eq (fun k => perms (F := F) (dstD c k) k early)]
    unfold Ow
    iframe # ∗
    iexists _; iexact HO
  unfold Ow
  iintro ⟨H1, H2, H3, H4, H5, HO⟩
  ihave HO := (Entails.of_eq (show iprop(∃ W, owes (c : Thread nD τ) (owedL c (hops.drop 48)) W) = iprop(∃ W, owes (c : Thread nD τ) 0 W) from rfl)) $$ HO
  iapply Hk
  iframe

end Cert.KernelIdeal.AR

end
-- ==== Proof.Glue.lean ====
/-
A whole buffer as its tiles, or its slots, beside what none of them covers; and back.
-/
module

public import proofs.«01_k».proof.Proof.Geo
public import proofs.«01_k».proof.Proof.Body

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

section Generic
variable {ℓ : Loc nD τ sig} {T : Type} [Fintype T] [DecidableEq T] (K : T → Finset (Idx ℓ))

/-- The elements in no part. -/
abbrev off : Finset (Idx ℓ) := Finset.univ \ Finset.univ.biUnion K

omit [FloatOps F] in
theorem cut (hd : ∀ t t', t ≠ t' → Disjoint (K t) (K t')) (f : Buf (Elt F) ℓ) {A : T → sProp (MM F)}
    (hA : ∀ t, (ℓ ↦[K t]{fullShare} f : sProp 𝕄) ⊢ A t) :
    (ℓ ↦{fullShare} f : sProp 𝕄) ⊢ iprop(bigSep Finset.univ A ∗ (ℓ ↦[off K]{fullShare} f)) := by
  iintro H
  ihave H := (pointsTo_split_subset (Finset.subset_univ (Finset.univ.biUnion K))).1 $$ H
  icases H with ⟨H, Ho⟩
  ihave H := (Entails.of_eq (pointsTo_biUnion Finset.univ K fun t _ t' _ h => hd t t' h)) $$ H
  isplitl [H]
  · iapply (show (bigSep Finset.univ (fun t => (ℓ ↦[K t]{fullShare} f : sProp 𝕄)) ⊢ bigSep Finset.univ A) from bigSep_mono fun t _ => hA t); iexact H
  iexact Ho

omit [FloatOps F] in
theorem glue (hd : ∀ t t', t ≠ t' → Disjoint (K t) (K t')) (f₀ : Buf (Elt F) ℓ) {A : T → sProp (MM F)} (P : T → Buf (Elt F) ℓ → Prop)
    (hA : ∀ t, A t ⊢ (iprop(∃ f : Buf (Elt F) ℓ, ⌜P t f⌝ ∗ (ℓ ↦[K t]{fullShare} f)) : sProp 𝕄)) :
    iprop(bigSep Finset.univ A ∗ (ℓ ↦[off K]{fullShare} f₀))
      ⊢ (iprop(∃ g : Buf (Elt F) ℓ, ⌜(∀ t, ∃ f, P t f ∧ ∀ i ∈ K t, g i = f i) ∧ ∀ i, (∀ t, i ∉ K t) → g i = f₀ i⌝ ∗ (ℓ ↦{fullShare} g)) : sProp 𝕄) := by
  haveI : Nonempty (Buf (Elt F) ℓ) := ⟨f₀⟩
  iintro ⟨H, Ho⟩
  ihave H := (show (bigSep Finset.univ A ⊢ bigSep Finset.univ (fun t => (iprop(∃ f : Buf (Elt F) ℓ, ⌜P t f⌝ ∗ (ℓ ↦[K t]{fullShare} f)) : sProp 𝕄))) from bigSep_mono fun t _ => hA t) $$ H
  ihave H := (BI.bigSep_exists_pi Finset.univ (fun (t : T) (f : Buf (Elt F) ℓ) => (iprop(⌜P t f⌝ ∗ (ℓ ↦[K t]{fullShare} f)) : sProp 𝕄))) $$ H
  icases H with ⟨%fs, H⟩
  ihave H := (BI.bigSep_pure_sep Finset.univ (fun t => P t (fs t)) (fun t => (ℓ ↦[K t]{fullShare} fs t : sProp 𝕄))) $$ H
  icases H with ⟨%hP, H⟩
  ihave H := (pointsTo_biUnion_join Finset.univ K fs f₀ fun t _ t' _ h => hd t t' h) $$ H
  icases H with ⟨%g, %hg, H⟩
  ihave H := (pointsTo_join_subset (Finset.subset_univ (Finset.univ.biUnion K))) $$ [H Ho]
  · isplitl [H]; · iexact H
    iexact Ho
  iexists ((Finset.univ.biUnion K).piecewise g f₀)
  isplitr
  · ipureintro
    refine ⟨fun t => ⟨fs t, hP t (Finset.mem_univ t), fun i hi => ?_⟩, fun i hi => ?_⟩
    · rw [Finset.piecewise_eq_of_mem _ _ _ (Finset.mem_biUnion.mpr ⟨t, Finset.mem_univ t, hi⟩)]; exact hg t (Finset.mem_univ t) i hi
    · rw [Finset.piecewise_eq_of_notMem]
      intro h
      obtain ⟨t, -, ht⟩ := Finset.mem_biUnion.mp h
      exact hi t ht
  iexact H

omit [FloatOps F] in
/-- Parts at any contents. -/
theorem cut_any (hd : ∀ t t', t ≠ t' → Disjoint (K t) (K t')) {A : T → sProp (MM F)}
    (hA : ∀ t (f : Buf (Elt F) ℓ), (ℓ ↦[K t]{fullShare} f : sProp 𝕄) ⊢ A t) :
    iprop(∃ f : Buf (Elt F) ℓ, ℓ ↦{fullShare} f) ⊢ iprop(bigSep Finset.univ A ∗ ∃ f : Buf (Elt F) ℓ, ℓ ↦[off K]{fullShare} f) := by
  iintro ⟨%f, H⟩
  ihave H := (cut K hd f fun t => hA t f) $$ H
  icases H with ⟨H, Ho⟩
  isplitl [H]; · iexact H
  iexists f; iexact Ho
omit [FloatOps F] in
theorem glue_any (hd : ∀ t t', t ≠ t' → Disjoint (K t) (K t')) {A : T → sProp (MM F)}
    (hA : ∀ t, A t ⊢ (iprop(∃ f : Buf (Elt F) ℓ, ⌜True⌝ ∗ (ℓ ↦[K t]{fullShare} f)) : sProp 𝕄)) :
    iprop(bigSep Finset.univ A ∗ ∃ f : Buf (Elt F) ℓ, ℓ ↦[off K]{fullShare} f) ⊢ iprop(∃ f : Buf (Elt F) ℓ, ℓ ↦{fullShare} f) := by
  iintro ⟨H, %f₀, Ho⟩
  ihave H := (glue K hd f₀ (fun _ _ => True) hA) $$ [H Ho]
  · isplitl [H]; · iexact H
    iexact Ho
  icases H with ⟨%g, -, H⟩
  iexists g; iexact H
end Generic

section Part
variable {sp : Space} {s : Shape} {e : EltTy} (c : Dev nD) (M : Memref sig .tc sp s e)
omit [FloatOps F] in
theorem owns_in {X : s.Idx → Elt F e} (f : Buf (Elt F) (M.view.loc (c : Thread nD τ))) (h : M.view.read (Elt F) f = X) :
    (M.view.loc (c : Thread nD τ) ↦[M.view.set]{fullShare} f : sProp 𝕄) ⊢ owns c M fullShare X := by
  unfold owns; iintro H; iexists f
  isplitr; · ipureintro; exact h
  iexact H
omit [FloatOps F] in
theorem owns_out (X : s.Idx → Elt F e) : owns c M fullShare X
    ⊢ (iprop(∃ f : Buf (Elt F) (M.view.loc (c : Thread nD τ)), ⌜M.view.read (Elt F) f = X⌝ ∗ (M.view.loc (c : Thread nD τ) ↦[M.view.set]{fullShare} f)) : sProp 𝕄) := by
  unfold owns; exact BI.Entails.refl _
omit [FloatOps F] in
theorem free_in (f : Buf (Elt F) (M.view.loc (c : Thread nD τ))) :
    (M.view.loc (c : Thread nD τ) ↦[M.view.set]{fullShare} f : sProp 𝕄) ⊢ free c M := by
  unfold free; iintro H; iexists _; iapply (owns_in c M f rfl); iexact H
omit [FloatOps F] in
theorem free_out : free c M
    ⊢ (iprop(∃ f : Buf (Elt F) (M.view.loc (c : Thread nD τ)), ⌜True⌝ ∗ (M.view.loc (c : Thread nD τ) ↦[M.view.set]{fullShare} f)) : sProp 𝕄) := by
  unfold free owns; iintro ⟨%X, %f, -, H⟩; iexists f
  isplitr; · ipureintro; trivial
  iexact H
omit [FloatOps F] in
/-- Contents that read as `f` does through a view agree with it on the view's elements. -/
theorem agree_of_read {v : View sig .tc sp s e} {f g : v.ty.Contents (Elt F)} (h : v.read (Elt F) f = v.read (Elt F) g) :
    ∀ i ∈ v.set, f i = g i := by
  intro i hi
  obtain ⟨x, -, rfl⟩ := Finset.mem_map.mp hi
  have := congrFun h x
  rw [View.read_apply, View.read_apply] at this
  exact (cast_inj _).mp this
end Part

variable (m : (ℓ : Loc nD τ sig) → Buf (Elt F) ℓ) (c : Dev nD)

/-! ## The arrays -/

abbrev aX (c : Dev nD) : Loc nD τ sig := (c : Thread nD τ).loc main_arg0
abbrev aR (c : Dev nD) : Loc nD τ sig := (c : Thread nD τ).loc main_arg1
abbrev aO (c : Dev nD) : Loc nD τ sig := (c : Thread nD τ).loc main_v1

abbrev KX (c : Dev nD) (t : TI) : Finset (Idx (aX c)) := (xT (xO c t.1 t.2.1 t.2.2)).view.set
abbrev KR (c : Dev nD) (t : Fin 4 × Fin 2) : Finset (Idx (aR c)) := (rT' (finO c t.1 t.2)).view.set
abbrev KO (c : Dev nD) (t : TI) : Finset (Idx (aO c)) := (oT (oO c t.1 t.2.1 t.2.2)).view.set

theorem KR_disjoint (t t' : Fin 4 × Fin 2) (h : t ≠ t') : Disjoint (KR c t) (KR c t') := by
  rw [KR, KR, rT'_set, rT'_set]; exact fTile_disjoint c t t' h
theorem KO_disjoint (t t' : TI) (h : t ≠ t') : Disjoint (KO c t) (KO c t') := by
  rw [KO, KO, oT_set, oT_set]; exact oTile_disjoint c t t' h

omit [FloatOps F] in
theorem cutX : (aX c ↦{fullShare} m (aX c) : sProp 𝕄) ⊢ iprop(A4 (fun k => bigSep Finset.univ (xt m c k)) ∗ (aX c ↦[off (KX c)]{fullShare} m (aX c))) := by
  have h := cut (KX c) (xT_disjoint c) (m (aX c)) (A := fun t => xt m c t.1 t.2) fun t => owns_in c (xT (xO c t.1 t.2.1 t.2.2)) (m (aX c)) rfl
  rw [bigSep_univ_prod] at h
  exact h
omit [FloatOps F] in
theorem glueX : iprop(A4 (fun k => bigSep Finset.univ (xt m c k)) ∗ (aX c ↦[off (KX c)]{fullShare} m (aX c))) ⊢ (aX c ↦{fullShare} m (aX c) : sProp 𝕄) := by
  have h := glue (KX c) (xT_disjoint c) (m (aX c)) (A := fun t => xt m c t.1 t.2)
    (fun t f => (xT (xO c t.1 t.2.1 t.2.2)).view.read (Elt F) f = xv m c (xO c t.1 t.2.1 t.2.2))
    (fun t => owns_out c (xT (xO c t.1 t.2.1 t.2.2)) _)
  rw [bigSep_univ_prod] at h
  refine BIBase.Entails.trans h ?_
  iintro ⟨%g, %hg, H⟩
  have : g = m (aX c) := funext fun i => by
    by_cases hi : ∃ t, i ∈ KX c t
    · obtain ⟨t, ht⟩ := hi
      obtain ⟨f, hf, hfg⟩ := hg.1 t
      rw [hfg i ht]
      exact agree_of_read (v := (xT (xO c t.1 t.2.1 t.2.2)).view) hf i ht
    · exact hg.2 i fun t ht => hi ⟨t, ht⟩
  rw [this]; iexact H

omit [FloatOps F] in
theorem cutR : (aR c ↦{fullShare} m (aR c) : sProp 𝕄) ⊢ iprop(A4 (fun k => bigSep Finset.univ (rt m c k)) ∗ (aR c ↦[off (KR c)]{fullShare} m (aR c))) := by
  have h := cut (KR c) (KR_disjoint c) (m (aR c)) (A := fun t => rt m c t.1 t.2) fun t => owns_in c (rT' (finO c t.1 t.2)) (m (aR c)) rfl
  rw [bigSep_univ_prod] at h
  exact h
omit [FloatOps F] in
theorem glueR : iprop(A4 (fun k => bigSep Finset.univ (rt m c k)) ∗ (aR c ↦[off (KR c)]{fullShare} m (aR c))) ⊢ (aR c ↦{fullShare} m (aR c) : sProp 𝕄) := by
  have h := glue (KR c) (KR_disjoint c) (m (aR c)) (A := fun t => rt m c t.1 t.2)
    (fun t f => (rT' (finO c t.1 t.2)).view.read (Elt F) f = rv m c (finO c t.1 t.2)) (fun t => owns_out c (rT' (finO c t.1 t.2)) _)
  rw [bigSep_univ_prod] at h
  refine BIBase.Entails.trans h ?_
  iintro ⟨%g, %hg, H⟩
  have : g = m (aR c) := funext fun i => by
    by_cases hi : ∃ t, i ∈ KR c t
    · obtain ⟨t, ht⟩ := hi
      obtain ⟨f, hf, hfg⟩ := hg.1 t
      rw [hfg i ht]
      exact agree_of_read (v := (rT' (finO c t.1 t.2)).view) hf i ht
    · exact hg.2 i fun t ht => hi ⟨t, ht⟩
  rw [this]; iexact H

/-- The result's contents read the computed tiles. -/
def Good (m : (ℓ : Loc nD τ sig) → Buf (Elt F) ℓ) (c : Dev nD) (g : Buf (Elt F) (aO c)) : Prop :=
  ∀ (k : Fin 4) (p : Fin 2) (i : Fin 4), (oT (oO c k p i)).view.read (Elt F) g = ov m c k p i

omit [FloatOps F] in
theorem cutO (f : Buf (Elt F) (aO c)) : (aO c ↦{fullShare} f : sProp 𝕄)
    ⊢ iprop(A4 (fun k => A8 (fun x => OF (F := F) c k x)) ∗ (aO c ↦[off (KO c)]{fullShare} f)) := by
  have h := cut (KO c) (KO_disjoint c) f (A := fun t => OF (F := F) c t.1 t.2) fun t => free_in c (oT (oO c t.1 t.2.1 t.2.2)) f
  rw [bigSep_univ_prod] at h
  exact h
theorem glueO (f : Buf (Elt F) (aO c)) : iprop(A4 (fun k => A8 (fun x => OD m c k x)) ∗ (aO c ↦[off (KO c)]{fullShare} f))
    ⊢ (iprop(∃ g : Buf (Elt F) (aO c), ⌜Good m c g⌝ ∗ (aO c ↦{fullShare} g)) : sProp 𝕄) := by
  have h := glue (KO c) (KO_disjoint c) f (A := fun t => OD m c t.1 t.2)
    (fun t f => (oT (oO c t.1 t.2.1 t.2.2)).view.read (Elt F) f = ov m c t.1 t.2.1 t.2.2) (fun t => owns_out c (oT (oO c t.1 t.2.1 t.2.2)) _)
  rw [bigSep_univ_prod] at h
  refine BIBase.Entails.trans h ?_
  iintro ⟨%g, %hg, H⟩
  iexists g
  isplitr
  · ipureintro
    intro k p i
    obtain ⟨f, hf, hfg⟩ := hg.1 (k, p, i)
    rw [← hf]
    exact View.read_congr hfg
  iexact H

/-! ## The scratch buffers -/

abbrev bL (c : Dev nD) : Loc nD τ sig := (c : Thread nD τ).loc cc0_scratch0
abbrev bS (c : Dev nD) : Loc nD τ sig := (c : Thread nD τ).loc cc0_scratch1
abbrev bV (c : Dev nD) : Loc nD τ sig := (c : Thread nD τ).loc cc0_scratch2
abbrev bT (c : Dev nD) : Loc nD τ sig := (c : Thread nD τ).loc cc0_scratch3

abbrev KL (c : Dev nD) (k : Fin 4) : Finset (Idx (bL c)) := (lS k).view.set
abbrev KS (c : Dev nD) (t : Fin 4 × Fin 2) : Finset (Idx (bS c)) := (sS t.1 t.2).view.set
abbrev KV (c : Dev nD) (t : Fin 4 × Fin 5) : Finset (Idx (bV c)) := (vS t.1 t.2).view.set
abbrev KT (c : Dev nD) (t : Fin 4 × Fin 2) : Finset (Idx (bT c)) := (tS t.1 t.2).view.set

theorem KL_disjoint (t t' : Fin 4) (h : t ≠ t') : Disjoint (KL c t) (KL c t') := by
  rw [KL, KL, lS_set, lS_set]; exact rL_disjoint t t' h
theorem KS_disjoint (t t' : Fin 4 × Fin 2) (h : t ≠ t') : Disjoint (KS c t) (KS c t') := by
  rw [KS, KS, sS_set, sS_set]; exact r2_disjoint t t' h
theorem KV_disjoint (t t' : Fin 4 × Fin 5) (h : t ≠ t') : Disjoint (KV c t) (KV c t') := by
  rw [KV, KV, vS_set, vS_set]; exact r5_disjoint t t' h
theorem KT_disjoint (t t' : Fin 4 × Fin 2) (h : t ≠ t') : Disjoint (KT c t) (KT c t') := by
  rw [KT, KT, tS_set, tS_set]; exact r2_disjoint t t' h

/-- A buffer at any contents, whole and outside its slots. -/
abbrev any (ℓ : Loc nD τ sig) : sProp 𝕄 := iprop(∃ f : Buf (Elt F) ℓ, ℓ ↦{fullShare} f)
abbrev anyOff {ℓ : Loc nD τ sig} {T : Type} [Fintype T] (K : T → Finset (Idx ℓ)) : sProp 𝕄 :=
  iprop(∃ f : Buf (Elt F) ℓ, ℓ ↦[off K]{fullShare} f)

omit [FloatOps F] in
theorem cutL : any (F := F) (bL c) ⊢ iprop(A4 (fun k => free (F := F) c (lS k)) ∗ anyOff (F := F) (KL c)) :=
  cut_any (KL c) (KL_disjoint c) fun t f => free_in c (lS t) f
omit [FloatOps F] in
theorem glueL : iprop(A4 (fun k => free (F := F) c (lS k)) ∗ anyOff (F := F) (KL c)) ⊢ any (F := F) (bL c) :=
  glue_any (KL c) (KL_disjoint c) fun t => free_out c (lS t)

omit [FloatOps F] in
theorem fin2_eq (Φ : Fin 2 → sProp (MM F)) : bigSep Finset.univ Φ = iprop(Φ 0 ∗ Φ 1) := by
  rw [bigSep_univ_eq_bigSepL [0, 1] (by decide) (by decide), bigSepL_cons_cons, bigSepL_singleton]; rfl
omit [FloatOps F] in
theorem fin5_eq (Φ : Fin 5 → sProp (MM F)) : bigSep Finset.univ Φ = iprop(Φ 0 ∗ Φ 1 ∗ Φ 2 ∗ Φ 3 ∗ Φ 4) := by
  rw [bigSep_univ_eq_bigSepL [0, 1, 2, 3, 4] (by decide) (by decide), bigSepL_cons_cons, bigSepL_cons_cons, bigSepL_cons_cons,
    bigSepL_cons_cons, bigSepL_singleton]; rfl

omit [FloatOps F] in
theorem cutS : any (F := F) (bS c) ⊢ iprop(A4 (fun k => iprop(free (F := F) c (sS k 0) ∗ free (F := F) c (sS k 1))) ∗ anyOff (F := F) (KS c)) := by
  have h := cut_any (KS c) (KS_disjoint c) (A := fun t => free (F := F) c (sS t.1 t.2)) fun t f => free_in c (sS t.1 t.2) f
  simp only [bigSep_univ_prod, fin2_eq] at h
  exact h
omit [FloatOps F] in
theorem glueS : iprop(A4 (fun k => iprop(free (F := F) c (sS k 0) ∗ free (F := F) c (sS k 1))) ∗ anyOff (F := F) (KS c)) ⊢ any (F := F) (bS c) := by
  have h := glue_any (KS c) (KS_disjoint c) (A := fun t => free (F := F) c (sS t.1 t.2)) fun t => free_out c (sS t.1 t.2)
  simp only [bigSep_univ_prod, fin2_eq] at h
  exact h
omit [FloatOps F] in
theorem cutT : any (F := F) (bT c) ⊢ iprop(A4 (fun k => iprop(free (F := F) c (tS k 0) ∗ free (F := F) c (tS k 1))) ∗ anyOff (F := F) (KT c)) := by
  have h := cut_any (KT c) (KT_disjoint c) (A := fun t => free (F := F) c (tS t.1 t.2)) fun t f => free_in c (tS t.1 t.2) f
  simp only [bigSep_univ_prod, fin2_eq] at h
  exact h
omit [FloatOps F] in
theorem glueT : iprop(A4 (fun k => iprop(free (F := F) c (tS k 0) ∗ free (F := F) c (tS k 1))) ∗ anyOff (F := F) (KT c)) ⊢ any (F := F) (bT c) := by
  have h := glue_any (KT c) (KT_disjoint c) (A := fun t => free (F := F) c (tS t.1 t.2)) fun t => free_out c (tS t.1 t.2)
  simp only [bigSep_univ_prod, fin2_eq] at h
  exact h

/-- The five receive slots of a stream. -/
def slots (c : Dev nD) (k : Fin 4) : sProp 𝕄 :=
  iprop(free (F := F) c (vS k 0) ∗ free (F := F) c (vS k 1) ∗ free (F := F) c (vS k 2) ∗ free (F := F) c (vS k 3) ∗ free (F := F) c (vS k 4))
omit [FloatOps F] in
theorem cutV : any (F := F) (bV c) ⊢ iprop(A4 (fun k => slots (F := F) c k) ∗ anyOff (F := F) (KV c)) := by
  have h := cut_any (KV c) (KV_disjoint c) (A := fun t => free (F := F) c (vS t.1 t.2)) fun t f => free_in c (vS t.1 t.2) f
  simp only [bigSep_univ_prod, fin5_eq] at h
  exact h
omit [FloatOps F] in
theorem glueV : iprop(A4 (fun k => slots (F := F) c k) ∗ anyOff (F := F) (KV c)) ⊢ any (F := F) (bV c) := by
  have h := glue_any (KV c) (KV_disjoint c) (A := fun t => free (F := F) c (vS t.1 t.2)) fun t => free_out c (vS t.1 t.2)
  simp only [bigSep_univ_prod, fin5_eq] at h
  exact h

end Cert.KernelIdeal.AR

end
-- ==== Proof.Fund.lean ====
/-
What the launch gives the devices: the invariants of all the protocol's cells, where each device stands on its own, the
duties each is to pay, and the credits each is to collect.
-/
module

public import proofs.«01_k».proof.Proof.Glue
public import proofs.«01_k».proof.Proof.Gen.KernelIdeal.Launch

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ)

/-! ## The semaphores -/

/-- A stream's own semaphores: its four of local transfers, then its seven cells. -/
abbrev OI : Type := Fin 4 × (Fin 4 ⊕ (Fin 2 ⊕ Fin 5))
def osem : OI → SemLoc sig
  | (k, .inl 0) => .dma (ldQ k) | (k, .inl 1) => .dma (rsQ k) | (k, .inl 2) => .dma (stQ k 0) | (k, .inl 3) => .dma (stQ k 1)
  | (k, .inr x) => csem (some (k, x))

theorem ownSemFacts : Pipeline.OwnSemFacts cfg0.spec osem := by decide +kernel

/-- What a cell is for tells the cell. -/
def ckOf : CI → CK
  | none => .bar | some (k, .inl b) => .snd k b | some (k, .inr j) => .rcv k j
theorem ck_csem (x : CI) : ck (csem x) = ckOf x := match x with
  | none => ck_bar | some (k, .inl b) => ck_snd k b | some (k, .inr j) => ck_rcv k j
theorem ckOf_inj : Function.Injective ckOf := by decide +kernel
theorem csem_inj : Function.Injective csem := fun x y h => ckOf_inj (by rw [← ck_csem, ← ck_csem, h])
theorem kcell_inj : Function.Injective kcell := by
  rintro ⟨c, x⟩ ⟨c', x'⟩ h
  have h1 : c = c' := congrArg (fun g : GSem nD τ sig => g.1.1) h
  have h2 : csem x = csem x' := congrArg Prod.snd h
  rw [h1, csem_inj h2]
def cells : Finset (GSem nD τ sig) := Finset.univ.map ⟨kcell, kcell_inj⟩

/-! ## The duties -/

/-- A device's duties as minted: its barrier's two, and for each hop its send cell's and its receive cell's. -/
abbrev DI : Type := Bool ⊕ (Bool × (Fin 4 × Fin 12))
def dutyOf (x : Dev nD × DI) : GSem nD τ sig × ℕ × Bool := match x.2 with
  | .inl b => (bcell x.1, 0, b)
  | .inr (false, k, t) => (scell x.1 k t.val, t.val / 2, false)
  | .inr (true, k, t) => (rcell x.1 k t.val, t.val / 5, false)

/-- What a duty is for. -/
def dk (x : DI) : CK × ℕ × Bool := match x with
  | .inl b => (.bar, 0, b)
  | .inr (false, k, t) => (.snd k (par t.val), t.val / 2, false)
  | .inr (true, k, t) => (.rcv k (sl5 t.val), t.val / 5, false)
theorem dk_inj : Function.Injective dk := by decide +kernel
theorem ck_duty (x : Dev nD × DI) : (ck (dutyOf x).1.2, (dutyOf x).2) = dk x.2 := by
  obtain ⟨c, b | ⟨_ | _, k, t⟩⟩ := x
  · exact congrArg (·, _) ck_bar
  · exact congrArg (·, _) (ck_snd k _)
  · exact congrArg (·, _) (ck_rcv k _)
theorem duty_dev (x : Dev nD × DI) : (dutyOf x).1.1.1 = x.1 := by
  obtain ⟨c, b | ⟨_ | _, k, t⟩⟩ := x <;> rfl
theorem dutyOf_inj : Function.Injective dutyOf := by
  intro x y h
  have h1 : x.1 = y.1 := by rw [← duty_dev x, ← duty_dev y, h]
  have h2 : x.2 = y.2 := dk_inj (by rw [← ck_duty x, ← ck_duty y, h])
  exact Prod.ext h1 h2
def duties : Finset (GSem nD τ sig × ℕ × Bool) := Finset.univ.map ⟨dutyOf, dutyOf_inj⟩

/-! ## Sums of parts -/

omit [FloatOps F] in
theorem opt_eq {α : Type} [Fintype α] [DecidableEq α] (Φ : Option α → sProp (MM F)) :
    bigSep Finset.univ Φ = iprop(Φ none ∗ bigSep Finset.univ fun a => Φ (some a)) := by
  rw [pull (Finset.mem_univ none), show Finset.univ.erase none = (Finset.univ : Finset α).map Function.Embedding.some from by
    ext x; cases x <;> simp, bigSep_map]
  rfl
omit [FloatOps F] in
theorem bool_eq (Φ : Bool → sProp (MM F)) : bigSep Finset.univ Φ = iprop(Φ false ∗ Φ true) := by
  rw [bigSep_univ_eq_bigSepL [false, true] (by decide) (by decide), bigSepL_cons_cons, bigSepL_singleton]; rfl
omit [FloatOps F] in
theorem sum_eq {α β : Type} [Fintype α] [Fintype β] (Φ : α ⊕ β → sProp (MM F)) :
    bigSep Finset.univ Φ = iprop((bigSep Finset.univ fun a => Φ (.inl a)) ∗ bigSep Finset.univ fun b => Φ (.inr b)) := bigSep_univ_sum Φ
omit [FloatOps F] in
theorem ico_eq (Φ : ℕ → sProp (MM F)) : bigSep (Finset.Ico 0 12) Φ = bigSep (Finset.univ : Finset (Fin 12)) fun t => Φ t.val := by
  rw [show Finset.Ico 0 12 = (Finset.univ : Finset (Fin 12)).map Fin.valEmbedding from by decide, bigSep_map]
  rfl

/-- The step around the ring of stream `k`. -/
def ring (k : Fin 4) : Dev nD ≃ Dev nD := ⟨(dstD · k), (srcD · k), fun d => srcD_dstD d k, fun d => dstD_srcD d k⟩

/-! ## Where a device stands -/

/-- A device's place at a cell of its own. -/
def station (c : Dev nD) (x : CI) : sProp 𝕄 := iprop(atPos ER (kcell (c, x)) 0 ∅ 0 ∗ reached ER (kcell (c, x)) 0)
/-- That stream's receive cells are at their first round. -/
def Fresh (c : Dev nD) (k : Fin 4) : sProp 𝕄 :=
  iprop(reached ER (rcell c k 0) 0 ∗ reached ER (rcell c k 1) 0 ∗ reached ER (rcell c k 2) 0 ∗ reached ER (rcell c k 3) 0 ∗ reached ER (rcell c k 4) 0)

omit [FloatOps F] in
theorem stream_station (c : Dev nD) (k : Fin 4) :
    (bigSep Finset.univ fun x => station (F := F) c (some (k, x))) ⊢ iprop(SW (F := F) c k 0 ∗ RW (F := F) c k 0 ∗ Fresh (F := F) c k) := by
  have hS : SW (F := F) c k 0 = iprop(atPos ER (kcell (c, some (k, .inl 0))) 0 ∅ 0 ∗ atPos ER (kcell (c, some (k, .inl 1))) 0 ∅ 0
      ∗ reached ER (kcell (c, some (k, .inl 0))) 0 ∗ reached ER (kcell (c, some (k, .inl 1))) 0) := rfl
  have hR : RW (F := F) c k 0 = iprop(atPos ER (kcell (c, some (k, .inr 0))) 0 ∅ 0 ∗ atPos ER (kcell (c, some (k, .inr 1))) 0 ∅ 0
      ∗ atPos ER (kcell (c, some (k, .inr 2))) 0 ∅ 0 ∗ atPos ER (kcell (c, some (k, .inr 3))) 0 ∅ 0 ∗ atPos ER (kcell (c, some (k, .inr 4))) 0 ∅ 0) := rfl
  have hF : Fresh (F := F) c k = iprop(reached ER (kcell (c, some (k, .inr 0))) 0 ∗ reached ER (kcell (c, some (k, .inr 1))) 0
      ∗ reached ER (kcell (c, some (k, .inr 2))) 0 ∗ reached ER (kcell (c, some (k, .inr 3))) 0 ∗ reached ER (kcell (c, some (k, .inr 4))) 0) := rfl
  rw [sum_eq, fin2_eq, fin5_eq, hS, hR, hF]
  unfold station
  iintro ⟨⟨⟨A0, R0⟩, A1, R1⟩, ⟨B0, S0⟩, ⟨B1, S1⟩, ⟨B2, S2⟩, ⟨B3, S3⟩, B4, S4⟩
  iframe

omit [FloatOps F] in
theorem stations (c : Dev nD) : bigSep Finset.univ (station (F := F) c)
    ⊢ iprop((atPos ER (bcell c) 0 ∅ 0 ∗ reached ER (bcell c) 0)
        ∗ A4 (fun k => iprop(SW (F := F) c k 0 ∗ RW (F := F) c k 0 ∗ Fresh (F := F) c k))) := by
  rw [opt_eq, bigSep_univ_prod]
  exact sep_mono_right (A4_mono (stream_station c))

/-! ## The duties dealt around -/

def minted (c : Dev nD) : sProp 𝕄 := bigSep Finset.univ fun x : DI => dutyTok ER (dutyOf (c, x)).1 (dutyOf (c, x)).2.1 (dutyOf (c, x)).2.2
def toPay (c : Dev nD) : sProp 𝕄 :=
  iprop(dutyTok ER (bcell (dstD c 1)) 0 true ∗ dutyTok ER (bcell (dstD c 0)) 0 false ∗ A4 (fun k => TK (F := F) c k 0))

omit [FloatOps F] in
theorem minted_eq (c : Dev nD) : minted (F := F) c = iprop((dutyTok ER (bcell c) 0 false ∗ dutyTok ER (bcell c) 0 true)
    ∗ A4 (fun k => bigSep Finset.univ fun t : Fin 12 => dutyTok ER (scell c k t.val) (t.val / 2) false)
    ∗ A4 (fun k => bigSep Finset.univ fun t : Fin 12 => dutyTok ER (rcell c k t.val) (t.val / 5) false)) := by
  unfold minted
  rw [sum_eq, bool_eq, bigSep_univ_prod, bool_eq, bigSep_univ_prod, bigSep_univ_prod]
  rfl

omit [FloatOps F] in
theorem TK_eq (c : Dev nD) (k : Fin 4) : TK (F := F) c k 0 = iprop((bigSep Finset.univ fun t : Fin 12 => dutyTok ER (scell c k t.val) (t.val / 2) false)
    ∗ bigSep Finset.univ fun t : Fin 12 => dutyTok ER (rcell (dstD c k) k t.val) (t.val / 5) false) := by
  unfold TK
  rw [ico_eq, bigSep_sep']

omit [FloatOps F] in
/-- Around the rings: what is minted of the cells of the device a stream sends to is paid by the sender. -/
theorem around (Φ : Dev nD → Fin 4 → sProp (MM F)) :
    (bigSep Finset.univ fun c : Dev nD => A4 (fun k => Φ c k)) = bigSep Finset.univ fun c : Dev nD => A4 (fun k => Φ (dstD c k) k) := by
  unfold A4
  rw [bigSep_univ_comm, bigSep_univ_comm (fun (c : Dev nD) k => Φ (dstD c k) k)]
  exact bigSep_congr fun k _ => bigSep_univ_equiv (ring k) fun c => Φ c k

omit [FloatOps F] in
theorem deal : (bigSep Finset.univ fun c : Dev nD => minted (F := F) c) ⊢ bigSep Finset.univ fun c : Dev nD => toPay (F := F) c := by
  have h : ∀ c : Dev nD, toPay (F := F) c = iprop(dutyTok ER (bcell (dstD c 1)) 0 true ∗ dutyTok ER (bcell (dstD c 0)) 0 false
      ∗ A4 (fun k => bigSep Finset.univ fun t : Fin 12 => dutyTok ER (scell c k t.val) (t.val / 2) false)
      ∗ A4 (fun k => bigSep Finset.univ fun t : Fin 12 => dutyTok ER (rcell (dstD c k) k t.val) (t.val / 5) false)) := fun c => by
    unfold toPay
    simp only [TK_eq, A4_sep]
  simp only [minted_eq, h, bigSep_sep']
  rw [bigSep_univ_equiv (ring 0) (fun c : Dev nD => (dutyTok ER (bcell c) 0 false : sProp 𝕄)),
    bigSep_univ_equiv (ring 1) (fun c : Dev nD => (dutyTok ER (bcell c) 0 true : sProp 𝕄)),
    around (fun c k => bigSep Finset.univ fun t : Fin 12 => dutyTok ER (rcell c k t.val) (t.val / 5) false)]
  iintro ⟨⟨H1, H2⟩, H3, H4⟩
  isplitl [H2]; · iexact H2
  isplitl [H1]; · iexact H1
  isplitl [H3]; · iexact H3
  iexact H4

/-! ## The launch's ghost state -/

def G (c : Dev nD) : sProp 𝕄 :=
  iprop((bigSep Finset.univ fun x : CI => roundState ER (Rd m) (kcell (c, x)) 0) ∗ bigSep Finset.univ (station (F := F) c) ∗ minted (F := F) c)

/-- A device's idle semaphores of local transfers. -/
def Idles (c : Dev nD) : sProp 𝕄 :=
  A4 (fun k => iprop(idle (F := F) c (ldQ k) ∗ idle (F := F) c (rsQ k) ∗ idle (F := F) c (stQ k 0) ∗ idle (F := F) c (stQ k 1)))

/-- The barrier's share, but for its credit. -/
def Meet₀ (c : Dev nD) : sProp 𝕄 :=
  iprop(dutyTok ER (bcell (dstD c 1)) 0 true ∗ dutyTok ER (bcell (dstD c 0)) 0 false ∗ reached ER (bcell (dstD c 1)) 0 ∗ reached ER (bcell (dstD c 0)) 0
    ∗ atPos ER (bcell c) 0 ∅ 0)
/-- A device's books at the start. -/
def Books (c : Dev nD) : sProp 𝕄 :=
  iprop(A4 (fun k => iprop(SW (F := F) c k 0 ∗ RW (F := F) c k 0 ∗ Fresh (F := F) c k)) ∗ A4 (fun k => TK (F := F) c k 0) ∗ Meet₀ (F := F) c ∗ Idles (F := F) c)

def G' (c : Dev nD) : sProp 𝕄 := iprop(∃ K, recs m K ∗ Books (F := F) c)

theorem fund : BI.own (ER (initOf cells duties)) ⊢ (|==> bigSep Finset.univ (G m) : sProp 𝕄) := by
  have hX (Φ : GSem nD τ sig → sProp 𝕄) : bigSep cells Φ = bigSep Finset.univ fun c : Dev nD => bigSep Finset.univ fun x : CI => Φ (kcell (c, x)) := by
    unfold cells; rw [bigSep_map, bigSep_univ_prod]; rfl
  have hT : bigSep duties (fun x => (dutyTok ER x.1 x.2.1 x.2.2 : sProp 𝕄)) = bigSep Finset.univ fun c : Dev nD => minted (F := F) c := by
    unfold duties; rw [bigSep_map, bigSep_univ_prod]; rfl
  iintro HX
  imod (Rounds.fund ER (Rd m) cells duties) $$ HX with ⟨Hs, Hr, Ha, Ht⟩
  imodintro
  ihave Hs := (Entails.of_eq (hX fun g => roundState ER (Rd m) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold G station; simp only [bigSep_sep']
  iframe

omit [FloatOps F] in
theorem own0 (c : Dev nD) : (Pipeline.ownSems0 (Ix := ℕ) (Name := ℕ) (U := UU) (Lvl := ℕ) (Val := Elt F) (τ := τ) osem c : sProp 𝕄)
    = iprop(Idles (F := F) c ∗ bigSep Finset.univ fun x => semVal (kcell (c, some x)) 0) := by
  unfold Pipeline.ownSems0 Idles
  rw [bigSep_univ_prod, bigSep_univ_prod, ← A4_sep]
  exact bigSep_congr fun k _ => by
    rw [sum_eq]
    exact congrArg (fun P => iprop(P ∗ _)) (A4_eq fun j => semVal ((c : Thread nD τ), osem (k, .inl j)) 0)
omit [FloatOps F] in
theorem unscoped0 (c : Dev nD) : (unscopedSems0 c : sProp 𝕄) = semVal (bcell c) 0 := by
  unfold unscopedSems0; rw [bigSep_eq_bigSepL_of_eq [SemLoc.reg barQ] (by decide) (by decide)]; rfl

theorem alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun x : CI => iprop(∃ κ : ℕ, cellInv ER (Rd m) κ (kcell (c, x))))
          ∗ bigSep Finset.univ (station (F := F) c) ∗ minted (F := F) c ∗ Idles (F := F) c) := by
  unfold G
  rw [own0, unscoped0]
  iintro ⟨⟨Hi, Hq⟩, Hb, Hst, Hat, Htok⟩
  ihave Hv := (Entails.of_eq (opt_eq fun x : CI => (semVal (kcell (c, x)) 0 : sProp 𝕄)).symm) $$ [Hq Hb]
  · isplitl [Hb]; · iexact Hb
    iexact Hq
  imod (show iprop((bigSep Finset.univ fun x : CI => semVal (kcell (c, x)) 0) ∗ bigSep Finset.univ fun x : CI => roundState ER (Rd m) (kcell (c, x)) 0)
      ⊢ (|={Set.univ}=> bigSep Finset.univ fun x => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hv Hst] with Hinv
  · isplitl [Hv] <;> iassumption
  imodintro
  iframe

omit [FloatOps F] in
theorem with_each {I : Type} [DecidableEq I] {S : Finset I} {R : sProp (MM F)} [BI.Persistent R] {Φ Ψ : I → sProp (MM F)}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun x : CI => iprop(∃ κ : ℕ, cellInv ER (Rd m) κ (kcell (c, x))))
          ∗ bigSep Finset.univ (station (F := F) c) ∗ minted (F := F) c ∗ Idles (F := F) c) : sProp 𝕄)
      ⊢ bigSep Finset.univ (G' m) := by
  rw [bigSep_sep', bigSep_sep', bigSep_sep', ← bigSep_univ_prod (fun x : Dev nD × CI => iprop(∃ κ : ℕ, cellInv ER (Rd m) κ (kcell x)))]
  iintro ⟨HI, Hat, Htok, Hid⟩
  ihave HK := (BI.bigSep_exists_pi Finset.univ (fun (x : Dev nD × CI) (κ : ℕ) => (cellInv ER (Rd m) κ (kcell x) : sProp 𝕄))) $$ HI
  icases HK with ⟨%K, #HI⟩
  ihave Htok := (deal (F := F)) $$ Htok
  ihave Hat := (show (bigSep Finset.univ fun c : Dev nD => bigSep Finset.univ (station (F := F) c)) ⊢ bigSep Finset.univ fun c : Dev nD =>
      iprop((atPos ER (bcell c) 0 ∅ 0 ∗ reached ER (bcell c) 0) ∗ A4 (fun k => iprop(SW (F := F) c k 0 ∗ RW (F := F) c k 0 ∗ Fresh (F := F) c k)))
    from bigSep_mono fun c _ => stations c) $$ Hat
  ihave Hat := (Entails.of_eq ((bigSep_sep' _ _ _).trans (congrArg (fun P => iprop(P ∗ _)) (bigSep_sep' _ _ _)))) $$ Hat
  icases Hat with ⟨⟨HaB, #HrB⟩, HS⟩
  ihave #HrL := (Entails.of_eq (bigSep_univ_equiv (ring 1) (fun c : Dev nD => (reached ER (bcell c) 0 : sProp 𝕄)))) $$ HrB
  ihave #HrR := (Entails.of_eq (bigSep_univ_equiv (ring 0) (fun c : Dev nD => (reached ER (bcell c) 0 : sProp 𝕄)))) $$ HrB
  iapply (show iprop(recs m K ∗ bigSep Finset.univ (fun c : Dev nD => iprop(toPay (F := F) c ∗ (reached ER (bcell (dstD c 1)) 0 ∗ reached ER (bcell (dstD c 0)) 0)
        ∗ atPos ER (bcell c) 0 ∅ 0 ∗ A4 (fun k => iprop(SW (F := F) c k 0 ∗ RW (F := F) c k 0 ∗ Fresh (F := F) c k)) ∗ Idles (F := F) c)))
      ⊢ bigSep Finset.univ (G' m) from with_each fun c => by
    unfold toPay G' Books Meet₀
    iintro ⟨#HK, ⟨H1, H2, H3⟩, ⟨H4, H5⟩, H6, H7, H8⟩
    iexists K
    iframe # ∗)
  isplitr
  · unfold recs; iexact HI
  rw [bigSep_sep', bigSep_sep', bigSep_sep', bigSep_sep', bigSep_sep']
  isplitl [Htok]; · iexact Htok
  isplitr
  · isplitr; · iexact HrL
    iexact HrR
  isplitl [HaB]; · iexact HaB
  isplitl [HS]; · iexact HS
  iexact Hid

/-- The launch's one step over all the devices. -/
theorem glob : (bigSep Finset.univ fun c => iprop(Pipeline.ownSems0 (Ix := ℕ) (Name := ℕ) (U := UU) (Lvl := ℕ) (Val := Elt F) (τ := τ) osem c
      ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The credits -/

omit [FloatOps F] in
/-- Of what each device owes for hop `t` of stream `k`, a device is credited its own. -/
theorem credit_hop (c : Dev nD) (k : Fin 4) (t : ℕ) :
    (Pipeline.launchCred (fun d => tallyAt (rcell (dstD d k) k t) t NB) c : sProp 𝕄) ⊢ cred (tallyAt (rcell c k t) t NB) := by
  refine BIBase.Entails.trans (Pipeline.launchCred_elim _ c (SemLoc.dma (rvQ k (sl5 t)))) (Entails.of_eq (congrArg cred ?_))
  show tallyOn (rcell c k t) _ = _
  unfold tallyAt
  refine congrArg _ (Finsupp.ext fun u => ?_)
  rw [Pipeline.launchCredit_owing, Finset.sum_eq_single (srcD c k)]
  · rw [dstD_srcD]; show tallyAt (rcell c k t) t NB (rcell c k t) u = _
    unfold tallyAt tallyOn; rw [Pi.single_eq_same]
  · intro d _ hd
    show tallyAt (rcell (dstD d k) k t) t NB (rcell c k t) u = 0
    rw [tallyAt_apply, if_neg]
    rintro ⟨h, -⟩
    have hc : c = dstD d k := congrArg (fun g : GSem nD τ sig => g.1.1) h
    exact hd (by rw [hc, srcD_dstD])
  · intro h; exact absurd (Finset.mem_univ _) h

omit [FloatOps F] in
theorem credit_bar (c : Dev nD) (k : Fin 4) :
    (Pipeline.launchCred (fun d => tallyAt (bcell (dstD d k)) 0 1) c : sProp 𝕄) ⊢ cred (tallyAt (bcell c) 0 1) := by
  refine BIBase.Entails.trans (Pipeline.launchCred_elim _ c (SemLoc.reg barQ)) (Entails.of_eq (congrArg cred ?_))
  show tallyOn (bcell c) _ = _
  unfold tallyAt
  refine congrArg _ (Finsupp.ext fun u => ?_)
  rw [Pipeline.launchCredit_owing, Finset.sum_eq_single (srcD c k)]
  · rw [dstD_srcD]; show tallyAt (bcell c) 0 1 (bcell c) u = _
    unfold tallyAt tallyOn; rw [Pi.single_eq_same]
  · intro d _ hd
    show tallyAt (bcell (dstD d k)) 0 1 (bcell c) u = 0
    rw [tallyAt_apply, if_neg]
    rintro ⟨h, -⟩
    have hc : c = dstD d k := congrArg (fun g : GSem nD τ sig => g.1.1) h
    exact hd (by rw [hc, srcD_dstD])
  · intro h; exact absurd (Finset.mem_univ _) h

omit [FloatOps F] in
theorem credit_hops (c : Dev nD) (l : List (Fin 4 × ℕ)) (hl : l.Nodup) :
    (Pipeline.launchCred (fun d => owedL d l) c : sProp 𝕄) ⊢ bigSep l.toFinset fun x => cred (tallyAt (rcell c x.1 x.2) x.2 NB) := by
  induction l with
  | nil =>
    rw [show (fun d : Dev nD => owedL d []) = fun _ => 0 from rfl, Pipeline.launchCred_zero, List.toFinset_nil, bigSep_empty]
    exact BI.Entails.refl _
  | cons x l ih =>
    rw [show (fun d : Dev nD => owedL d (x :: l)) = fun d => owedL d l + tallyAt (rcell (dstD d x.1) x.1 x.2) x.2 NB from rfl,
      Pipeline.launchCred_add (fun d => owedL d l), List.toFinset_cons,
      bigSep_insert (fun h => (List.nodup_cons.mp hl).1 (List.mem_toFinset.mp h))]
    refine show _ ⊢ iprop(_ ∗ _) from ?_
    iintro ⟨H1, H2⟩
    isplitl [H2]
    · iapply (credit_hop c x.1 x.2); iexact H2
    iapply (ih (List.nodup_cons.mp hl).2); iexact H1

omit [FloatOps F] in
theorem credits (c : Dev nD) : (Pipeline.launchCred O₀ c : sProp 𝕄) ⊢ iprop(A4 (fun k => CR (F := F) c k 0) ∗ cred (tallyAt (bcell c) 0 2)) := by
  have e : bigSep hops.toFinset (fun x => (cred (tallyAt (rcell c x.1 x.2) x.2 NB) : sProp 𝕄)) = A4 (fun k => CR (F := F) c k 0) := by
    unfold CR
    simp only [ico_eq]
    rw [show hops.toFinset = (Finset.univ : Finset (Fin 4 × Fin 12)).map ((Function.Embedding.refl (Fin 4)).prodMap Fin.valEmbedding) from by decide,
      bigSep_map, bigSep_univ_prod]
    rfl
  rw [show (O₀ : Dev nD → CellTallies nD τ sig ℕ) = fun c => (owedL c hops + tallyAt (bcell (dstD c 0)) 0 1) + tallyAt (bcell (dstD c 1)) 0 1 from rfl,
    Pipeline.launchCred_add (fun d => owedL d hops + tallyAt (bcell (dstD d 0)) 0 1), Pipeline.launchCred_add (fun d => owedL d hops), ← e,
    show (2 : ℕ) = 1 + 1 from rfl, ← tallyAt_add]
  iintro ⟨⟨H1, H2⟩, H3⟩
  isplitl [H1]
  · iapply (credit_hops c hops (by decide)); iexact H1
  iapply (cred_add _ _).2
  isplitl [H2]
  · iapply (credit_bar c 0); iexact H2
  iapply (credit_bar c 1); iexact H3

end Cert.KernelIdeal.AR

end
-- ==== Proof.ProgEq.lean ====
/-
The printed kernel body is the program of module `Prog`.
-/
module

public import proofs.«01_k».proof.Proof.Prog

@[expose] public section

noncomputable section

namespace Cert.KernelIdeal.AR

open Cert.KernelIdeal Cert.KernelIdeal.Gen
open Idealize.ShloMosaic Idealize.ShloMosaic.TcCoe Idealize.SL.Sem

variable {F : FTy → Type} [FloatOps F]

/-- The printed body, at the call's buffers and semaphores, is `bodyP`: the two have the same operations in the same order. -/
theorem body_eq :
    cc0_body_skel (F := F) xM (Memref.isWhole_whole _) rM (Memref.isWhole_whole _) gM (Memref.isWhole_whole _) oM (Memref.isWhole_whole _)
      lM (Memref.isWhole_whole _) sM (Memref.isWhole_whole _) vM (Memref.isWhole_whole _) tM (Memref.isWhole_whole _)
      cc0_scratch4 cc0_scratch5 cc0_scratch6 cc0_scratch7 cc0_scratch8 = bodyP := by
  sl_kernel_rfl

end Cert.KernelIdeal.AR

end
-- ==== Proof.Run.lean ====
/-
The whole program on its four devices: what each device holds before and after its kernel, and the run from any memory.
-/
module

public import proofs.«01_k».proof.Proof.Fund
public import proofs.«01_k».proof.Proof.ProgEq
public import Idealize.ShloMosaic.Lib.Pipeline.CollectiveSegs
public import proofs.«01_k».proof.Proof.Gen.KernelIdeal.Points

@[expose] public section

noncomputable section

namespace Cert.KernelIdeal.AR

open Cert.KernelIdeal Cert.KernelIdeal.Gen
open Idealize.ShloMosaic Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ) (c : Dev nD)

/-! ## Before and after the kernel -/

/-- The scratch buffers, at any contents. -/
def Scr : sProp 𝕄 := iprop(any (F := F) (bL c) ∗ any (F := F) (bS c) ∗ any (F := F) (bV c) ∗ any (F := F) (bT c))

def begin : sProp 𝕄 :=
  iprop(G' m c ∗ (A4 (fun k => CR (F := F) c k 0) ∗ cred (tallyAt (bcell c) 0 2)) ∗ levAts L lv
    ∗ (aX c ↦{fullShare} m (aX c)) ∗ (aR c ↦{fullShare} m (aR c)) ∗ (aO c ↦{fullShare} m (aO c)))
def before : sProp 𝕄 := iprop(begin m c ∗ Scr (F := F) c)

/-- What a device is left with, its scratch apart: its arguments unchanged, its result good. -/
def done : sProp 𝕄 :=
  iprop((aX c ↦{fullShare} m (aX c)) ∗ (aR c ↦{fullShare} m (aR c)) ∗ ∃ g : Buf (Elt F) (aO c), ⌜Good m c g⌝ ∗ (aO c ↦{fullShare} g))
def after : sProp 𝕄 :=
  iprop((done m c ∗ semVal (bcell c) 0) ∗ (Idles (F := F) c ∗ A4 (fun k => Zs (F := F) c k)) ∗ Scr (F := F) c)

/-- What no tile and no slot covers. -/
def Gaps : sProp 𝕄 :=
  iprop((aX c ↦[off (KX c)]{fullShare} m (aX c)) ∗ (aR c ↦[off (KR c)]{fullShare} m (aR c)) ∗ (aO c ↦[off (KO c)]{fullShare} m (aO c))
    ∗ anyOff (F := F) (KL c) ∗ anyOff (F := F) (KS c) ∗ anyOff (F := F) (KV c) ∗ anyOff (F := F) (KT c))

/-- A stream's parts, one kind at a time. -/
def parts (k : Fin 4) : sProp 𝕄 :=
  iprop((idle (F := F) c (ldQ k) ∗ idle (F := F) c (rsQ k) ∗ idle (F := F) c (stQ k 0) ∗ idle (F := F) c (stQ k 1)) ∗ bigSep Finset.univ (xt m c k)
    ∗ bigSep Finset.univ (rt m c k) ∗ free (F := F) c (lS k) ∗ (free (F := F) c (sS k 0) ∗ free (F := F) c (sS k 1)) ∗ free (F := F) c (tS k 0) ∗ free (F := F) c (tS k 1))

omit [FloatOps F] in
theorem A4_sep6 (P₁ P₂ P₃ P₄ P₅ P₆ : Fin 4 → sProp (MM F)) : A4 (fun k => iprop(P₁ k ∗ P₂ k ∗ P₃ k ∗ P₄ k ∗ P₅ k ∗ P₆ k))
    = iprop(A4 P₁ ∗ A4 P₂ ∗ A4 P₃ ∗ A4 P₄ ∗ A4 P₅ ∗ A4 P₆) := by simp only [A4_sep]
omit [FloatOps F] in
theorem A4_sep4 (P₁ P₂ P₃ P₄ : Fin 4 → sProp (MM F)) : A4 (fun k => iprop((P₁ k ∗ P₂ k) ∗ P₃ k ∗ P₄ k))
    = iprop((A4 P₁ ∗ A4 P₂) ∗ A4 P₃ ∗ A4 P₄) := by simp only [A4_sep]

theorem parts_rest (k : Fin 4) : parts m c k ⊢ Rest m c k := by
  unfold parts Rest LdI RsI StI
  iintro ⟨⟨H1, H2, H3, H4⟩, H5, H6, H7, ⟨H8, H9⟩, H10, H11⟩
  iframe
theorem rest_parts (k : Fin 4) : Rest m c k ⊢ parts m c k := by
  unfold parts Rest LdI RsI StI
  iintro ⟨⟨H1, H2, H3⟩, ⟨H4, H5⟩, ⟨H6, H7⟩, ⟨H8, H9⟩, H10, H11⟩
  iframe

omit [FloatOps F] in
theorem led_perms (k : Fin 4) :
    iprop(((SW (F := F) c k 0 ∗ RW (F := F) c k 0 ∗ Fresh (F := F) c k) ∗ TK (F := F) c k 0) ∗ CR (F := F) c k 0 ∗ slots (F := F) c k)
      ⊢ iprop(perms (F := F) c k early ∗ Led (F := F) c k 0 0) := by
  have h : perms (F := F) c k early = iprop((free (F := F) c (vS k 0) ∗ reached ER (rcell c k 0) 0) ∗ (free (F := F) c (vS k 1) ∗ reached ER (rcell c k 1) 0)
      ∗ (free (F := F) c (vS k 2) ∗ reached ER (rcell c k 2) 0) ∗ (free (F := F) c (vS k 3) ∗ reached ER (rcell c k 3) 0)
      ∗ (free (F := F) c (vS k 4) ∗ reached ER (rcell c k 4) 0) ∗ emp) := rfl
  rw [h]
  unfold Fresh slots Led
  iintro ⟨⟨⟨HS, HR, R0, R1, R2, R3, R4⟩, HT⟩, HC, V0, V1, V2, V3, V4⟩
  iframe

omit [FloatOps F] in
theorem perms_slots (k : Fin 4) :
    iprop(Perm (F := F) c k 12 ∗ Perm (F := F) c k 13 ∗ Perm (F := F) c k 14 ∗ Perm (F := F) c k 15 ∗ Perm (F := F) c k 16) ⊢ slots (F := F) c k := by
  have h : slots (F := F) c k = iprop(free (F := F) c (vS k (sl5 15)) ∗ free (F := F) c (vS k (sl5 16)) ∗ free (F := F) c (vS k (sl5 12))
    ∗ free (F := F) c (vS k (sl5 13)) ∗ free (F := F) c (vS k (sl5 14))) := rfl
  rw [h]
  unfold Perm
  iintro ⟨⟨H2, -⟩, ⟨H3, -⟩, ⟨H4, -⟩, ⟨H0, -⟩, H1, -⟩
  iframe

/-- What a device starts with, parted as its body takes it. -/
theorem enter : before m c ⊢ iprop(∃ K, Env m K ∗ A4 (fun k => Rest m c k) ∗ A4 (fun k => A8 (fun x => OF (F := F) c k x))
    ∗ A4 (fun k => perms (F := F) c k early) ∗ A4 (fun k => Led (F := F) c k 0 0) ∗ Meet (F := F) c ∗ Gaps m c) := by
  unfold before begin G' Books Scr Env Meet Meet₀ Gaps Idles
  iintro ⟨⟨⟨%K, #HK, HS, HT, ⟨M1, M2, M3, M4, M5⟩, HI⟩, ⟨HC, HB⟩, #Hlev, HX, HR, HO⟩, HL, HSs, HV, HTt⟩
  ihave HX := (cutX m c) $$ HX
  ihave HR := (cutR m c) $$ HR
  ihave HO := (cutO c (m (aO c))) $$ HO
  ihave HL := (cutL (F := F) c) $$ HL
  ihave HSs := (cutS (F := F) c) $$ HSs
  ihave HV := (cutV (F := F) c) $$ HV
  ihave HTt := (cutT (F := F) c) $$ HTt
  icases HX with ⟨HX, GX⟩
  icases HR with ⟨HR, GR⟩
  icases HO with ⟨HO, GO⟩
  icases HL with ⟨HL, GL⟩
  icases HSs with ⟨HSs, GS⟩
  icases HV with ⟨HV, GV⟩
  icases HTt with ⟨HTt, GT⟩
  ihave HP := ((Entails.of_eq (A4_sep6 _ _ _ _ _ _).symm).trans (A4_mono (parts_rest m c))) $$ [HI HX HR HL HSs HTt]
  rotate_left
  · ihave HQ := ((Entails.of_eq (A4_sep4 _ _ _ _).symm).trans (A4_mono (led_perms c))) $$ [HS HT HC HV]
    rotate_left
    · ihave HQ := (Entails.of_eq (A4_sep _ _)) $$ HQ
      icases HQ with ⟨HQ1, HQ2⟩
      iexists K
      iframe # ∗
    · iframe
  · iframe

/-- What the body leaves, put together again. -/
theorem leave : iprop(A4 (fun k => Rest m c k) ∗ A4 (fun k => A8 (fun x => OD m c k x))
      ∗ A4 (fun k => iprop(Perm (F := F) c k 12 ∗ Perm (F := F) c k 13 ∗ Perm (F := F) c k 14 ∗ Perm (F := F) c k 15 ∗ Perm (F := F) c k 16))
      ∗ A4 (fun k => Zs (F := F) c k) ∗ semVal (bcell c) 0 ∗ Gaps m c) ⊢ after m c := by
  unfold after done Gaps Scr Idles
  iintro ⟨HP, HO, HV, HZ, HB, GX, GR, GO, GL, GS, GV, GT⟩
  ihave HP := ((A4_mono (rest_parts m c)).trans (Entails.of_eq (A4_sep6 _ _ _ _ _ _))) $$ HP
  icases HP with ⟨HI, HX, HR, HL, HS, HT⟩
  ihave HX := (glueX m c) $$ [HX GX]
  · iframe
  ihave HR := (glueR m c) $$ [HR GR]
  · iframe
  ihave HO := (glueO m c (m (aO c))) $$ [HO GO]
  · iframe
  ihave HL := (glueL (F := F) c) $$ [HL GL]
  · iframe
  ihave HS := (glueS (F := F) c) $$ [HS GS]
  · iframe
  ihave HV := (A4_mono (perms_slots (F := F) c)) $$ HV
  ihave HV := (glueV (F := F) c) $$ [HV GV]
  · iframe
  ihave HT := (glueT (F := F) c) $$ [HT GT]
  · iframe
  iframe

/-! ## The kernel's one point -/

/-- The staged weights. -/
def gstg : (cc0_stg0_0 : Ref sig .tc).ty.Contents (Elt F) := (win0_0.blk (0 : Fin 1)).view.read (Elt F) (m ((c : Thread nD τ).loc main_arg2))
theorem gstg_eq : gstg m c = gv m c := by
  unfold gstg gv
  exact Memref.readAt_unit_zero (Elt F) main_arg2 (funext fun a => by fin_cases a; rfl) _ _

def dats (_ : Fin 1) (c : Dev nD) : Dat τ (Elt F) ℕ ℕ UU ℕ cfg0 c where
  A w := m ((cfg0.win w).arr.view.loc (c : Thread nD τ))
  after w _ := match w with
    | ⟨0, _⟩ => gstg m c
  Φ t := match t with
    | ⟨0, _⟩ => before m c
    | ⟨_ + 1, _⟩ => after m c
  q _ := fullShare
  owed t := match t with
    | ⟨0, _⟩ => O₀ c
    | ⟨_ + 1, _⟩ => 0

omit [FloatOps F] in
theorem whole_eq (b : Ref sig .tc) (X : b.ty.Contents (Elt F)) :
    (Idealize.ShloMosaic.owns (Ix := ℕ) (Name := ℕ) (U := UU) (Lvl := ℕ) (c : Thread nD τ) (Memref.whole b) fullShare X : sProp 𝕄) = owns c (Memref.whole b) fullShare X := rfl

def atStart : sProp 𝕄 :=
  iprop(before m c ∗ (dats m 0 c).owesAt 0 t0_0.castSucc ∗ ∃ d, owns c gM fullShare ((dats m 0 c).before (0 : Fin 1) t0_0 d))
def atEnd : sProp 𝕄 := iprop(after m c ∗ (dats m 0 c).owesAt 0 t0_0.succ ∗ owns c gM fullShare (gstg m c))

theorem wp_kernel : atStart m c ⊢ WP c bodyP (fun _ => atEnd m c) := by
  unfold atStart
  iintro ⟨HP, HO, %d, Hg⟩
  have hx : (dats m 0 c).before (0 : Fin 1) t0_0 d = gv m c := by
    rw [← gstg_eq]; unfold Dat.before; rw [if_pos (fetch0_0 t0_0)]; rfl
  ihave Hg := (Entails.of_eq (congrArg (owns c gM fullShare) hx)) $$ Hg
  ihave HP := (enter m c) $$ HP
  icases HP with ⟨%K, #HE, H1, H2, H3, H4, H5, HG⟩
  unfold Dat.owesAt Pipeline.owesWithin
  icases HO with ⟨%W, %hW, HO⟩
  iapply (wp_body m K c (Q := fun _ => atEnd m c)) $$ [H1 H2 H3 H4 H5 HO Hg]
  · isplitr; · iexact HE
    isplitl [H1]; · iexact H1
    isplitl [H2]; · iexact H2
    isplitl [H3]; · iexact H3
    isplitl [H4]; · iexact H4
    isplitl [Hg]; · unfold Gam; iexact Hg
    isplitl [H5]; · iexact H5
    iexact HO
  iintro ⟨H1, H2, H3, H4, Hg, H5, %W', HO⟩
  unfold atEnd Dat.owesAt Pipeline.owesWithin
  isplitl [H1 H2 H3 H4 H5 HG]
  · iapply (leave m c)
    iframe
  isplitl [HO]
  · iexists W'
    isplitr; · ipureintro; exact fun _ _ => Or.inl trivial
    iexact HO
  rw [gstg_eq]
  unfold Gam
  iexact Hg

theorem row_eq (t : Fin cfg0.N) : defs₀ (F := F) .tc cfg0.body (cfg0.bodyArgs t (cfg0.slots t)) = bodyAt0 t := by
  unfold defs₀; rfl

set_option maxRecDepth 100000 in
theorem bodyAt_eq : bodyAt0 (F := F) t0_0 = cc0_body xM (Memref.isWhole_whole _) rM (Memref.isWhole_whole _) gM (Memref.isWhole_whole _) oM (Memref.isWhole_whole _)
      lM (Memref.isWhole_whole _) sM (Memref.isWhole_whole _) vM (Memref.isWhole_whole _) tM (Memref.isWhole_whole _)
      cc0_scratch4 cc0_scratch5 cc0_scratch6 cc0_scratch7 cc0_scratch8 := by
  with_reducible_and_instances unfold bodyAt0
  congr 1
theorem bodyAt_bodyP : bodyAt0 (F := F) t0_0 = bodyP := bodyAt_eq.trans (by rw [cc0_body_eq_skeleton]; exact body_eq)

theorem body_obligation : BodyObligation (dats (F := F) m 0 c) (defs₀ (F := F)) Variants.none 0 Set.univ := fun t => by
  rw [fin_N0 t, bigSep_W0, bigSep_W0, row_eq, bodyAt_bodyP]
  have h := wp_kernel m c
  unfold WP at h
  revert h
  generalize bodyP (F := F) = P
  intro h
  exact h

/-! ## The launch -/

theorem share_eq (c : Dev nD) (w : Fin cfg0.W) : (dats m 0 c).share w = fullShare := by unfold Dat.share; split <;> rfl

def u₀ : UU := (initOf (Pipeline.cells cfgs cellOf_inj) (Pipeline.launchToks cfgs cellOf_inj), (initOf cells duties, 1))

theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (show BI.own (embR (initOf cells duties, (1 : Counters))) ⊢ (BI.own (ER (initOf cells duties)) : sProp 𝕄) from by
    unfold ER; exact BI.Entails.refl _) $$ HX
  imod (fund m) $$ HX with HG
  imodintro
  isplitl [HP] <;> iassumption

theorem begin_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begin m c ∗ emp) := by
  rw [Pipeline.unscopedRestP_none, unscopedRest0_eq]
  iintro ⟨⟨H1, H2, H3⟩, Hlev, Hcr, -, HG⟩
  ihave Hc := (credits (F := F) c) $$ Hcr
  imodintro
  unfold begin
  iframe

theorem before_intro (c : Dev nD) :
    iprop(begin m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before Scr any
  iintro ⟨Hs, -, HR⟩
  iframe

omit [FloatOps F] in
theorem zs_sems (k : Fin 4) : Zs (F := F) c k ⊢ (bigSep Finset.univ fun x => semVal (kcell (c, some (k, x))) 0 : sProp 𝕄) := by
  have h : Zs (F := F) c k = iprop(semVal (kcell (c, some (k, .inl 0))) 0 ∗ semVal (kcell (c, some (k, .inl 1))) 0 ∗ semVal (kcell (c, some (k, .inr 2))) 0
    ∗ semVal (kcell (c, some (k, .inr 3))) 0 ∗ semVal (kcell (c, some (k, .inr 4))) 0 ∗ semVal (kcell (c, some (k, .inr 0))) 0
    ∗ semVal (kcell (c, some (k, .inr 1))) 0) := rfl
  rw [h, sum_eq, fin2_eq, fin5_eq]
  iintro ⟨A0, A1, B2, B3, B4, B0, B1⟩
  iframe

theorem after_exit (c : Dev nD) : (dats m 0 c).Φ (Fin.last cfg0.N)
    ⊢ iprop((done m c ∗ unscopedSems0 c) ∗ Pipeline.ownSems0 osem c ∗ Pipeline.scopedRest cfg0.spec c) := by
  rw [show (dats m 0 c).Φ (Fin.last cfg0.N) = after m c from rfl, scopedRest0_eq, own0, unscoped0, bigSep_univ_prod]
  unfold after Scr any
  iintro ⟨HD, ⟨HI, HZ⟩, HS⟩
  ihave HZ := (A4_mono (zs_sems (F := F) c)) $$ HZ
  iframe

theorem mayWait_stage (q : DmaSem sig) (h : lvOf (ck (.dma q)) 0 = 0) (O : CellTallies nD τ sig ℕ) (hO : O = O₀ c ∨ O = 0) :
    (levAts L lv : sProp 𝕄) ⊢ MayWait (c : Thread nD τ) (.dma q) 0 O := by
  rcases hO with rfl | rfl
  · have hp : ∀ {g : GSem nD τ sig} {u : ℕ}, 0 < O₀ c g u → (∃ x ∈ hops, g = rcell (dstD c x.1) x.1 x.2 ∧ u = x.2) ∨ ∃ d, g = bcell d ∧ u = 0 := by
      intro g u h
      unfold O₀ at h
      rw [Pi.add_apply, Pi.add_apply, Finsupp.add_apply, Finsupp.add_apply, tallyAt_apply, tallyAt_apply] at h
      by_cases h1 : 0 < owedL c hops g u
      · exact .inl (owedL_pos c hops h1)
      by_cases h2 : g = bcell (dstD c 0) ∧ u = 0
      · exact .inr ⟨_, h2⟩
      by_cases h3 : g = bcell (dstD c 1) ∧ u = 0
      · exact .inr ⟨_, h3⟩
      rw [if_neg h2, if_neg h3] at h
      exact absurd h (by omega)
    refine MayOwe.of_cut (L := L) (lev := lv) 0 (fun p hp => by rw [Finset.mem_singleton.mp hp]; exact mem_L c _ (show 0 < 12 by decide)) ?_
      (fun p hp => by rw [Finset.mem_singleton.mp hp]; exact le_of_eq h) ?_
    · intro g u hg
      rcases hp hg with ⟨x, hx, rfl, rfl⟩ | ⟨d, rfl, rfl⟩
      · exact mem_L _ _ (hops_lt x hx)
      · exact mem_L _ _ (show 0 < 12 by decide)
    · intro g u hg
      rcases hp hg with ⟨x, hx, rfl, rfl⟩ | ⟨d, rfl, rfl⟩
      · rw [lv_rcell]; omega
      · unfold lv; rw [ck_bar]; decide
  · rw [MayWait_zero]; iintro -; iempintro

theorem waits (c : Dev nD) : (levAts L lv : sProp 𝕄) ⊢ Pipeline.cellsWaits cfgs (dats m) 0 0 c :=
  Pipeline.cellsWaits_intro cfgs (dats m) 0 0 c fun w s t =>
    mayWait_stage c _ (by fin_cases w; fin_cases s <;> decide) _ (by
      rcases t with ⟨_ | _, ht⟩
      · exact Or.inl rfl
      · exact Or.inr rfl)

/-- What a device's memory reads at the end. -/
def Reads (c : Dev nD) (s : MemSt nD τ sig (Elt F)) : Prop :=
  (s.mem (aX c) = m (aX c) ∧ s.mem (aR c) = m (aR c) ∧ Good m c (s.mem (aO c)))
    ∧ ∀ sm : SemLoc sig, sm.isScoped .tc = false → s.sem ((c.tc : Thread nD τ), sm) = 0

theorem read_end (c : Dev nD) (s' : Phys nD τ sig (Elt F)) :
    iprop((done m c ∗ unscopedSems0 c) ∗ emp ∗ SI s') ⊢ (|={Set.univ}=> iprop(⌜Reads m c s'.mem⌝ ∗ SI s') : sProp 𝕄) := by
  unfold done
  iintro ⟨⟨⟨H1, H2, %g, %hg, H3⟩, Hu⟩, -, HSI⟩
  icombine HSI H1 gives %h1
  icombine HSI H2 gives %h2
  icombine HSI H3 gives %h3
  have e1 := Buf.eq_of_forall_mem_univ h1
  have e2 := Buf.eq_of_forall_mem_univ h2
  have e3 := Buf.eq_of_forall_mem_univ h3
  imod (Pipeline.unscopedSems0_read (X := unscopedSems0 c) (c := c) fupd_intro s') $$ [Hu HSI] with ⟨%hs, HSI⟩
  · isplitl [Hu] <;> iassumption
  imodintro
  isplitr
  · ipureintro
    exact ⟨⟨e1, e2, e3 ▸ hg⟩, hs⟩
  iexact HSI

set_option maxRecDepth 32000 in
/-- The program on its four devices: from any memory with zero counters every weakly fair execution ends, with every
    argument unchanged, every result good and every counter at zero. -/
theorem run_main (ρ : Dev nD → PrngReg) : θ_run defs (onTc (τ := τ) (main (F := F))) ⟨m, fun _ => 0, ρ⟩ (fun r =>
    (∀ c : Dev nD, (r.2.mem (aX c) = m (aX c) ∧ r.2.mem (aR c) = m (aR c) ∧ Good m c (r.2.mem (aO c)))
      ∧ r.2.mem ((c : Thread nD τ).loc main_arg2) = m ((c : Thread nD τ).loc main_arg2)) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ Variants.none m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ _ => rfl) (hpf := fun _ k => k.elim0)
    (X := begin m) (Y := fun c => iprop(done m c ∗ unscopedSems0 c)) (Z := fun _ => iprop(emp))
    (hX := begin_intro m ρ) (hin := before_intro m) (hout := after_exit m)
    (QY := Reads m)
    (hY := read_end m)
    (hQ := fun _ h hs => ⟨fun c => ⟨(h c).2.2.1, ((h c).1 (0 : Fin 1)).trans ((dats (F := F) m 0 c).arrAt_in (0 : Fin 1) rfl _)⟩, sem_eq_zero hs fun c => (h c).2.2.2⟩)

end Cert.KernelIdeal.AR

end
-- ==== Proof.Norm.lean ====
/-
The arithmetic of one row over the extended reals: the reference's whole array and one tile of the kernel's, read at an
element, are one function of the row.
-/
module

public import proofs.«01_k».proof.Proof.Geo
public import proofs.«01_k».proof.Proof.Gen.ReferenceIdeal.Run
public import Idealize.ShloMosaic.Lib.Pointwise

@[expose] public section

noncomputable section

namespace Cert.KernelIdeal.AR

open Cert.KernelIdeal Cert.KernelIdeal.Gen
open Idealize.ShloMosaic Idealize.ShloMosaic.TcCoe
open scoped BigOperators

/-- Element `l` of the row `y`, divided by the root of the row's mean square plus a small constant, times `s`. -/
def nrm (y : Fin 2048 → EReal) (s : EReal) (l : Fin 2048) : EReal :=
  Ideal.div (y l) (Ideal.sqrt (Ideal.div (∑ j : Fin 2048, y j * y j) (Ideal.ofBits .f32 0x45000000#32) + Ideal.ofBits .f32 0x358637BD#32)) * s

theorem finT_apply (a r : T32 Ideal) (g : FVec Ideal S2048 .f32) (i : Fin 256) (l : Fin 2048) :
    finT a r g (ix2 i l) = nrm (fun j => a (ix2 i j) + r (ix2 i j)) (g (ix1 l)) l := by
  unfold finT k0_pay15 nrm
  simp only [up4, shapeCast_shapeCast]
  pointwise

/-- The reference's result, from its three arguments. -/
def refV (A : FVec Ideal ⟨3, ![4, 8192, 2048]⟩ .f32) (R : FVec Ideal ⟨2, ![8192, 2048]⟩ .f32) (g : FVec Ideal ⟨1, ![2048]⟩ .f32) :
    FVec Ideal ⟨2, ![8192, 2048]⟩ .f32 :=
  fun x => nrm (fun j => (∑ d : Fin 4, A (ix3 d (x 0) j)) + R (ix2 (x 0) j)) (g (ix1 (x 1))) (x 1)

end Cert.KernelIdeal.AR

namespace Cert.ReferenceIdeal.AR

open Cert.ReferenceIdeal Cert.ReferenceIdeal.Gen
open Idealize.ShloMosaic Idealize.ShloMosaic.TcCoe Idealize.SL.Sem
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = Cert.KernelIdeal.AR.refV (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.ReferenceIdeal.Value.run m ρ)
  generalize m ((c.tc : Thread nD τ).loc main_arg0) = A
  generalize m ((c.tc : Thread nD τ).loc main_arg1) = R
  generalize m ((c.tc : Thread nD τ).loc main_arg2) = g
  funext x
  obtain ⟨i, l, rfl⟩ : ∃ i l, x = ix2 i l := ⟨x 0, x 1, by funext a; fin_cases a <;> rfl⟩
  unfold Cert.KernelIdeal.AR.refV Cert.KernelIdeal.AR.nrm
  pointwise

end Cert.ReferenceIdeal.AR

end
-- ==== Proof.Value.lean ====
/-
What the kernel leaves in its result is the reference's function of the whole arrays: every tile of the result, on every
device, is that function at the tile's elements, and the tiles cover the result.
-/
module

public import proofs.«01_k».proof.Proof.Norm
public import proofs.«01_k».proof.Proof.Glue
public import Idealize.ShloMosaic.Lib.VecWindow
public import Idealize.ShloMosaic.Lib.Layout

@[expose] public section

noncomputable section

namespace Cert.KernelIdeal.AR

open Cert.KernelIdeal Cert.KernelIdeal.Gen
open Idealize.ShloMosaic Idealize.ShloMosaic.TcCoe
open scoped BigOperators

/-! ## Where a tile's elements lie -/

theorem off_ext {o o' : Off} (h : o.o = o'.o) : o = o' := by
  cases o; cases o'; cases h; rfl

/-- The element of the array at `x` of the tile at `o`. -/
abbrev el (o : Off) (x : (⟨2, ![256, 2048]⟩ : Shape).Idx) : (⟨2, ![8192, 2048]⟩ : Shape).Idx := (rT o).emb x

theorem row_lt (ch k : Fin 4) (p : Fin 2) (i : Fin 256) : row ch k p + i.val < 8192 := by
  unfold row
  have := (quart k).isLt
  omega

theorem el_ix2 {o : Off} {ch k : Fin 4} {p : Fin 2} (h : o.o = ![row ch k p, 0]) (i : Fin 256) (l : Fin 2048) :
    el o (ix2 i l) = ix2 ⟨row ch k p + i.val, row_lt ch k p i⟩ l := by
  funext a
  refine Fin.ext ?_
  show o.o a + 1 * (ix2 i l a).val = _
  rw [h]
  match a with
  | 0 => show row ch k p + 1 * i.val = row ch k p + i.val; omega
  | 1 => show 0 + 1 * l.val = l.val; omega

/-! ## The tiles of one sum -/

/-- On the way of stream `k`, the tile a device completes in pass `p` is the one each device before it has worked on. -/
theorem recv2 (d : Dev nD) (k : Fin 4) (p : Fin 2) : recvO d k 2 p = finO d k p :=
  off_ext (by revert d k p; decide +kernel)
theorem recv1 (d : Dev nD) (k : Fin 4) (p : Fin 2) : recvO (srcD d k) k 1 p = finO d k p :=
  off_ext (by revert d k p; decide +kernel)
theorem recv0 (d : Dev nD) (k : Fin 4) (p : Fin 2) : recvO (srcD (srcD d k) k) k 0 p = finO d k p :=
  off_ext (by revert d k p; decide +kernel)
theorem own (d : Dev nD) (k : Fin 4) (p : Fin 2) : ownO (srcD (srcD (srcD d k) k) k) k p = finO d k p :=
  off_ext (by revert d k p; decide +kernel)
/-- The tile gathered at a step is the one completed that many devices before. -/
theorem gat0 (d : Dev nD) (k : Fin 4) (p : Fin 2) : finO (srcD d k) k p = oO d k p 1 :=
  off_ext (by revert d k p; decide +kernel)
theorem gat1 (d : Dev nD) (k : Fin 4) (p : Fin 2) : finO (srcD (srcD d k) k) k p = oO d k p 2 :=
  off_ext (by revert d k p; decide +kernel)
theorem gat2 (d : Dev nD) (k : Fin 4) (p : Fin 2) : finO (srcD (srcD (srcD d k) k) k) k p = oO d k p 3 :=
  off_ext (by revert d k p; decide +kernel)

/-- The sum around the ring is the sum over the devices. -/
theorem ring_sum (d : Dev nD) (k : Fin 4) (f : Fin 4 → EReal) :
    f (srcD (srcD (srcD d k) k) k) + f (srcD (srcD d k) k) + f (srcD d k) + f d = ∑ c : Fin 4, f c := by
  have hu : (Finset.univ : Finset (Fin 4)) = {srcD (srcD (srcD d k) k) k, srcD (srcD d k) k, srcD d k, d} := by revert d k; decide +kernel
  have h1 : srcD (srcD (srcD d k) k) k ∉ ({srcD (srcD d k) k, srcD d k, d} : Finset (Fin 4)) := by revert d k; decide +kernel
  have h2 : srcD (srcD d k) k ∉ ({srcD d k, d} : Finset (Fin 4)) := by revert d k; decide +kernel
  have h3 : srcD d k ∉ ({d} : Finset (Fin 4)) := by revert d k; decide +kernel
  rw [hu, Finset.sum_insert h1, Finset.sum_insert h2, Finset.sum_insert h3, Finset.sum_singleton, add_assoc, add_assoc]

/-! ## The tiles' values -/

theorem tr_ideal (x : T32 Ideal) : tr x = x := rfl
theorem ex_ideal (x : T16 Ideal) : ex x = x := rfl

section
variable (m : (ℓ : Loc nD τ sig) → Buf (Elt Ideal) ℓ)
variable (A : FVec Ideal ⟨3, ![4, 8192, 2048]⟩ .f32) (R : FVec Ideal ⟨2, ![8192, 2048]⟩ .f32) (g : FVec Ideal ⟨1, ![2048]⟩ .f32)

/-- The devices hold the blocks of `A`, and each all of `R` and `g`. -/
def Holds : Prop := ∀ c : Dev nD, m ((c : Thread nD τ).loc main_arg0) = Layout.block ⟨3, ![1, 8192, 2048]⟩ ⟨3, ![4, 8192, 2048]⟩ 0 4 c A
  ∧ m ((c : Thread nD τ).loc main_arg1) = R ∧ m ((c : Thread nD τ).loc main_arg2) = g

/-- Element `y` of device `c`'s part of `A`. -/
def col (y : (⟨2, ![8192, 2048]⟩ : Shape).Idx) (c : Fin 4) : EReal := A (ix3 c (y 0) (y 1))

variable {m A R g} (hm : Holds m A R g)
include hm

theorem xv_at (c : Dev nD) (o : Off) (x : (⟨2, ![256, 2048]⟩ : Shape).Idx) : xv m c o x = col A (el o x) c := by
  unfold xv
  rw [(hm c).1]
  have h := congrFun (Memref.read_squeeze_full (Val := Elt Ideal) xM inb_S1x8192x2048_S1x8192x2048_0_0_0 squeezes_S1x8192x2048_S8192x2048
    (Layout.block ⟨3, ![1, 8192, 2048]⟩ ⟨3, ![4, 8192, 2048]⟩ 0 4 c A)) (el o x)
  refine Eq.trans ?_ (h.trans ?_)
  · rfl
  · generalize el o x = y
    obtain ⟨r, l, rfl⟩ : ∃ (r : Fin 8192) (l : Fin 2048), y = ix2 r l := ⟨_, _, eq_ix2 y⟩
    show shapeCast S8192x2048 (Layout.block ⟨3, ![1, 8192, 2048]⟩ ⟨3, ![4, 8192, 2048]⟩ 0 4 c A) (by decide) (ix2 r l) = A (ix3 c r l)
    pointwise
    refine congrArg A (funext fun a => Fin.ext ?_)
    rw [Layout.Tiles.idx_val]
    fin_cases a <;> simp

theorem rv_at (c : Dev nD) (o : Off) (x : (⟨2, ![256, 2048]⟩ : Shape).Idx) : rv m c o x = R (el o x) := by
  unfold rv
  rw [(hm c).2.1]
  rfl

/-- The sum a device completes. -/
theorem sum_at (k : Fin 4) (d : Dev nD) (p : Fin 2) (x : (⟨2, ![256, 2048]⟩ : Shape).Idx) :
    accT (rcvd m k (6 * p.val + 2) d) (xv m d (recvO d k 2 p)) x = ∑ c : Fin 4, col A (el (finO d k p) x) c := by
  have hp : ∀ s, s < 6 → pas (6 * p.val + s) = p := by revert p; decide
  have h0 : sent m k (6 * p.val) (srcD (srcD (srcD d k) k) k) = tr (xv m (srcD (srcD (srcD d k) k) k) (ownO (srcD (srcD (srcD d k) k) k) k p)) := by
    match p with
    | 0 => rfl
    | 1 => exact sent_own m k _
  rw [← ring_sum d k]
  unfold rcvd
  rw [sent_acc1 (p := p) m k (srcD d k) (t := 6 * p.val + 1) (by omega) (hp 1 (by decide))]
  unfold rcvd
  rw [sent_acc0 (p := p) m k (srcD (srcD d k) k) (t := 6 * p.val) (by omega) (hp 0 (by decide))]
  unfold rcvd
  rw [h0, recv2, recv1, recv0, own]
  simp only [← xv_at hm]
  rfl

/-- What a device normalises is the reference's function there. -/
theorem outT_at (k : Fin 4) (d : Dev nD) (p : Fin 2) (x : (⟨2, ![256, 2048]⟩ : Shape).Idx) :
    outT m k d p (rcvd m k (6 * p.val + 2) d) x = refV A R g (el (finO d k p) x) := by
  obtain ⟨i, l, rfl⟩ : ∃ i l, x = ix2 i l := ⟨_, _, eq_ix2 x⟩
  unfold outT
  rw [finT_apply, el_ix2 (finO_o d k p)]
  unfold refV
  simp only [sum_at hm, rv_at hm, el_ix2 (finO_o d k p), gv, (hm d).2.2]
  rfl

/-- Every tile of the result is the reference's function at its elements. -/
theorem ov_at (d : Dev nD) (k : Fin 4) (p : Fin 2) (i : Fin 4) (x : (⟨2, ![256, 2048]⟩ : Shape).Idx) :
    ov m d k p i x = refV A R g (el (oO d k p i) x) := by
  have h3 : ∀ d, rcvd m k (6 * p.val + 3) d = tr (outT m k (srcD d k) p (rcvd m k (6 * p.val + 2) (srcD d k))) := fun d =>
    sent_fin (p := p) m k (srcD d k) (t := 6 * p.val + 2) (by omega) (by revert p; decide)
  have h4 : ∀ d, rcvd m k (6 * p.val + 4) d = rcvd m k (6 * p.val + 3) (srcD d k) := fun d => sent_fwd m k (srcD d k) (Or.inl (by omega))
  have h5 : ∀ d, rcvd m k (6 * p.val + 5) d = rcvd m k (6 * p.val + 4) (srcD d k) := fun d => sent_fwd m k (srcD d k) (Or.inr (by omega))
  match i with
  | 0 => exact outT_at hm k d p x
  | 1 =>
    rw [← gat0, ← outT_at hm, ← ov_gat0 m k d rfl, h3]; rfl
  | 2 =>
    rw [← gat1, ← outT_at hm, ← ov_gat1 m k d rfl, h4, h3]; rfl
  | 3 =>
    rw [← gat2, ← outT_at hm, ← ov_gat2 m k d rfl, h5, h4, h3]; rfl

omit hm in
/-- The tiles cover the result. -/
theorem el_cover (d : Dev nD) (y : (⟨2, ![8192, 2048]⟩ : Shape).Idx) : ∃ k p i x, el (oO d k p i) x = y := by
  obtain ⟨r, l, rfl⟩ : ∃ (r : Fin 8192) (l : Fin 2048), y = ix2 r l := ⟨_, _, eq_ix2 y⟩
  have hq : ∀ q : Fin 4, ∃ k, quart k = q := by decide
  obtain ⟨k, hk⟩ := hq ⟨r.val % 1024 / 256, by omega⟩
  have hi : ∀ (d : Dev nD) (k ch : Fin 4), ∃ i, into d k i = ch := by decide +kernel
  obtain ⟨i, hi⟩ := hi d k ⟨r.val / 2048, by omega⟩
  refine ⟨k, ⟨r.val % 2048 / 1024, by omega⟩, i, ix2 ⟨r.val % 256, by omega⟩ l, ?_⟩
  rw [el_ix2 (oO_o _ _ _ _), hi]
  refine congrArg (fun r => ix2 r l) (Fin.ext ?_)
  have hq : (quart k).val = r.val % 1024 / 256 := congrArg Fin.val hk
  show 2048 * (r.val / 2048) + 1024 * (r.val % 2048 / 1024) + 256 * (quart k).val + r.val % 256 = r.val
  omega

/-- So a result made of those tiles is the reference's. -/
theorem good_eq (d : Dev nD) (f : Buf (Elt Ideal) (aO d)) (h : Good m d f) : f = refV A R g := by
  funext y
  obtain ⟨k, p, i, x, rfl⟩ := el_cover d y
  exact (congrFun (h k p i) x).trans (ov_at hm d k p i x)

end

end Cert.KernelIdeal.AR

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- On any float values the kernel leaves its arguments as they were and every counter at zero. -/
theorem quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1)
        ∧ r.2.mem ((c.tc : Thread _ Cert.KernelIdeal.τ).loc Cert.KernelIdeal.main_arg2) = m ((c.tc : Thread _ Cert.KernelIdeal.τ).loc Cert.KernelIdeal.main_arg2))
      ∧ r.2.sem = fun _ => 0 :=
  (θ_run Cert.KernelIdeal.defs _ _).mono (fun _ h => ⟨fun c => ⟨(h.1 c).1.1, (h.1 c).1.2.1, (h.1 c).2⟩, h.2⟩)
    (Cert.KernelIdeal.AR.run_main m ρ)

set_option smartUnfolding false in
theorem frame_p : Cert.quiescent_Kernel := fun m ρ _ => quiet (F := Bits) m ρ
theorem frame_i : Cert.quiescent_KernelIdeal := fun m ρ _ => quiet (F := Ideal) m ρ

theorem frame_r : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run m ρ)

/-- Every device's result is the reference's: each tile of it is (`good_eq`), and the reference's run ends in that function of
    its arguments. -/
theorem algebraic : Cert.algebraic_KernelIdeal_ReferenceIdeal := by
  intro m ρ m' ρ' _ hm
  refine ⟨Cert.KernelIdeal.AR.refV (m' ((0 : Dev Cert.ReferenceIdeal.nD).tc.loc Cert.ReferenceIdeal.main_arg0))
    (m' ((0 : Dev Cert.ReferenceIdeal.nD).tc.loc Cert.ReferenceIdeal.main_arg1))
    (m' ((0 : Dev Cert.ReferenceIdeal.nD).tc.loc Cert.ReferenceIdeal.main_arg2)), ?_, ?_⟩
  · exact (θ_run Cert.KernelIdeal.defs _ _).mono (fun _ h c =>
      ⟨Cert.KernelIdeal.AR.good_eq hm c _ (h.1 c).1.2.2, (h.1 c).1.1, (h.1 c).1.2.1, (h.1 c).2⟩) (Cert.KernelIdeal.AR.run_main m ρ)
  · exact (θ_run Cert.ReferenceIdeal.defs _ _).mono (fun _ h => h 0) (Cert.ReferenceIdeal.AR.run m' ρ')

theorem claim : Cert.Claim := ⟨Cert.Kernel.Gen.facts, Cert.KernelIdeal.Gen.facts, Cert.ReferenceIdeal.Gen.facts,
  frame_p, frame_i, frame_r, trivial, algebraic⟩

end Cert.Proof

end
